-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 512, 8, 64]⟩ ⟨4, ![2, 4096, 8, 64]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 8, 64]⟩ ⟨4, ![2, 4096, 8, 64]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x768 : Shape := ⟨3, ![2, 512, 768]⟩
abbrev S768x512 : Shape := ⟨2, ![768, 512]⟩
abbrev S2x512x8x64 : Shape := ⟨4, ![2, 512, 8, 64]⟩
abbrev S512x768 : Shape := ⟨2, ![512, 768]⟩
abbrev S_ : Shape := ⟨0, ![]⟩

class Facts : Prop where
  bitsLt_bf16_f32 : FTy.bits .bf16 < FTy.bits .f32
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S2x512x8x64 : S_.BroadcastsInDim S2x512x8x64 (![] : Fin 0 → Fin S2x512x8x64.rank)
  reducesTo_S2x512x8x64_S_d0_1_2_3 : S2x512x8x64.ReducesTo [0, 1, 2, 3] S_

variable [Facts]

def fn {F : FTy → Type} [FloatOps F] (main_arg0 : FVec F S2x512x768 .bf16) (main_arg1 : FVec F S768x512 .bf16) (main_arg2 : FVec F S2x512x8x64 .bf16) (main_arg3 : FVec F S2x512x8x64 .bf16) (main_arg4 : FVec F S512x768 .bf16) : IVec S_ 1 :=
  let main_v0 : FVec F S2x512x768 .f32 := (extf .f32 · bitsLt_bf16_f32) main_arg0
  let main_v1 : FVec F S768x512 .f32 := (extf .f32 · bitsLt_bf16_f32) main_arg1
  let main_v2 : FVec F S2x512x8x64 .f32 := (extf .f32 · bitsLt_bf16_f32) main_arg2
  let main_v3 : FVec F S2x512x768 .f32 := Host.absf main_v0
  let main_cst : FVec F S_ .f32 := constant S_ .f32 0x7F800000#32
  let main_v4 : FVec F S2x512x768 .f32 := broadcastInDim S2x512x768 ![] bcast_S_S2x512x768 main_cst
  let main_v5 : IVec S2x512x768 1 := cmpf .olt main_v3 main_v4
  let main_c : IVec S_ 1 := constantI S_ 1 1#1
  let main_v6 : IVec S_ 1 := (fun x v => Host.reduce IntOp.andi x v reducesTo_S2x512x768_S_d0_1_2 h_S_) main_v5 main_c
  let main_v7 : FVec F S768x512 .f32 := Host.absf main_v1
  let main_cst_0 : FVec F S_ .f32 := constant S_ .f32 0x7F800000#32
  let main_v8 : FVec F S768x512 .f32 := broadcastInDim S768x512 ![] bcast_S_S768x512 main_cst_0
  let main_v9 : IVec S768x512 1 := cmpf .olt main_v7 main_v8
  let main_c_1 : IVec S_ 1 := constantI S_ 1 1#1
  let main_v10 : IVec S_ 1 := (fun x v => Host.reduce IntOp.andi x v reducesTo_S768x512_S_d0_1 h_S_) main_v9 main_c_1
  let main_v11 : IVec S_ 1 := andi main_v6 main_v10
  let main_v12 : FVec F S2x512x8x64 .f32 := Host.absf main_v2
  let main_cst_2 : FVec F S_ .f32 := constant S_ .f32 0x7F800000#32
  let main_v13 : FVec F S2x512x8x64 .f32 := broadcastInDim S2x512x8x64 ![] bcast_S_S2x512x8x64 main_cst_2
  let main_v14 : IVec S2x512x8x64 1 := cmpf .olt main_v12 main_v13
  let main_c_3 : IVec S_ 1 := constantI S_ 1 1#1
  let main_v15 : IVec S_ 1 := (fun x v => Host.reduce IntOp.andi x v reducesTo_S2x512x8x64_S_d0_1_2_3 h_S_) main_v14 main_c_3
  let main_v16 : IVec S_ 1 := andi main_v11 main_v15
  main_v16
-- ==== Pre_finite_ReferenceIdeal.lean ====
abbrev S2x512x768 : Shape := ⟨3, ![2, 512, 768]⟩
abbrev S768x512 : Shape := ⟨2, ![768, 512]⟩
abbrev S2x4096x8x64 : Shape := ⟨4, ![2, 4096, 8, 64]⟩
abbrev S512x768 : Shape := ⟨2, ![512, 768]⟩
abbrev S_ : Shape := ⟨0, ![]⟩

class Facts : Prop where
  bitsLt_bf16_f32 : FTy.bits .bf16 < FTy.bits .f32
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S2x4096x8x64 : S_.BroadcastsInDim S2x4096x8x64 (![] : Fin 0 → Fin S2x4096x8x64.rank)
  reducesTo_S2x4096x8x64_S_d0_1_2_3 : S2x4096x8x64.ReducesTo [0, 1, 2, 3] S_

variable [Facts]

def fn {F : FTy → Type} [FloatOps F] (main_arg0 : FVec F S2x512x768 .bf16) (main_arg1 : FVec F S768x512 .bf16) (main_arg2 : FVec F S2x4096x8x64 .bf16) (main_arg3 : FVec F S2x4096x8x64 .bf16) (main_arg4 : FVec F S512x768 .bf16) : IVec S_ 1 :=
  let main_v0 : FVec F S2x512x768 .f32 := (extf .f32 · bitsLt_bf16_f32) main_arg0
  let main_v1 : FVec F S768x512 .f32 := (extf .f32 · bitsLt_bf16_f32) main_arg1
  let main_v2 : FVec F S2x4096x8x64 .f32 := (extf .f32 · bitsLt_bf16_f32) main_arg2
  let main_v3 : FVec F S2x512x768 .f32 := Host.absf main_v0
  let main_cst : FVec F S_ .f32 := constant S_ .f32 0x7F800000#32
  let main_v4 : FVec F S2x512x768 .f32 := broadcastInDim S2x512x768 ![] bcast_S_S2x512x768 main_cst
  let main_v5 : IVec S2x512x768 1 := cmpf .olt main_v3 main_v4
  let main_c : IVec S_ 1 := constantI S_ 1 1#1
  let main_v6 : IVec S_ 1 := (fun x v => Host.reduce IntOp.andi x v reducesTo_S2x512x768_S_d0_1_2 h_S_) main_v5 main_c
  let main_v7 : FVec F S768x512 .f32 := Host.absf main_v1
  let main_cst_0 : FVec F S_ .f32 := constant S_ .f32 0x7F800000#32
  let main_v8 : FVec F S768x512 .f32 := broadcastInDim S768x512 ![] bcast_S_S768x512 main_cst_0
  let main_v9 : IVec S768x512 1 := cmpf .olt main_v7 main_v8
  let main_c_1 : IVec S_ 1 := constantI S_ 1 1#1
  let main_v10 : IVec S_ 1 := (fun x v => Host.reduce IntOp.andi x v reducesTo_S768x512_S_d0_1 h_S_) main_v9 main_c_1
  let main_v11 : IVec S_ 1 := andi main_v6 main_v10
  let main_v12 : FVec F S2x4096x8x64 .f32 := Host.absf main_v2
  let main_cst_2 : FVec F S_ .f32 := constant S_ .f32 0x7F800000#32
  let main_v13 : FVec F S2x4096x8x64 .f32 := broadcastInDim S2x4096x8x64 ![] bcast_S_S2x4096x8x64 main_cst_2
  let main_v14 : IVec S2x4096x8x64 1 := cmpf .olt main_v12 main_v13
  let main_c_3 : IVec S_ 1 := constantI S_ 1 1#1
  let main_v15 : IVec S_ 1 := (fun x v => Host.reduce IntOp.andi x v reducesTo_S2x4096x8x64_S_d0_1_2_3 h_S_) main_v14 main_c_3
  let main_v16 : IVec S_ 1 := andi main_v11 main_v15
  main_v16
-- ==== Kernel.lean ====
abbrev S2x512x768 : Shape := ⟨3, ![2, 512, 768]⟩
abbrev S768x512 : Shape := ⟨2, ![768, 512]⟩
abbrev S2x512x8x64 : Shape := ⟨4, ![2, 512, 8, 64]⟩
abbrev S512x768 : Shape := ⟨2, ![512, 768]⟩
abbrev S8x2x8x512x64 : Shape := ⟨5, ![8, 2, 8, 512, 64]⟩
abbrev S7 : Shape := ⟨1, ![7]⟩
abbrev S_ : Shape := ⟨0, ![]⟩
abbrev S2x8x512x64 : Shape := ⟨4, ![2, 8, 512, 64]⟩
abbrev S1x2x8x512x64 : Shape := ⟨5, ![1, 2, 8, 512, 64]⟩
abbrev S1 : Shape := ⟨1, ![1]⟩
abbrev S512x128 : Shape := ⟨2, ![512, 128]⟩
abbrev S8x4096 : Shape := ⟨2, ![8, 4096]⟩
abbrev S512x1 : Shape := ⟨2, ![512, 1]⟩
abbrev S1x4096 : Shape := ⟨2, ![1, 4096]⟩
abbrev S512x4096 : Shape := ⟨2, ![512, 4096]⟩
abbrev S1x512x768 : Shape := ⟨3, ![1, 512, 768]⟩
abbrev S512x512 : Shape := ⟨2, ![512, 512]⟩
abbrev S512x64 : Shape := ⟨2, ![512, 64]⟩
abbrev S1x1x1x512x64 : Shape := ⟨5, ![1, 1, 1, 512, 64]⟩
abbrev S4096x64 : Shape := ⟨2, ![4096, 64]⟩
abbrev S512 : Shape := ⟨1, ![512]⟩

abbrev nBuf : Space → Nat
  | .hbm => 6
  | .vmem => 8
  | .smem => 0
  | _ => 0

abbrev bufTy : (tb : Table) → Fin (tcTables nBuf tb) → BufTy
  | .hbm, ⟨0, _⟩ => ⟨S2x512x768, .bf16⟩
  | .hbm, ⟨1, _⟩ => ⟨S768x512, .bf16⟩
  | .hbm, ⟨2, _⟩ => ⟨S2x512x8x64, .bf16⟩
  | .hbm, ⟨3, _⟩ => ⟨S2x512x8x64, .bf16⟩
  | .hbm, ⟨4, _⟩ => ⟨S512x768, .bf16⟩
  | .hbm, ⟨5, _⟩ => ⟨S2x512x768, .f32⟩
  | .local _ .vmem, ⟨0, _⟩ => ⟨S2x512x768, .bf16⟩
  | .local _ .vmem, ⟨1, _⟩ => ⟨S768x512, .bf16⟩
  | .local _ .vmem, ⟨2, _⟩ => ⟨S512x768, .bf16⟩
  | .local _ .vmem, ⟨3, _⟩ => ⟨S2x512x8x64, .bf16⟩
  | .local _ .vmem, ⟨4, _⟩ => ⟨S2x512x8x64, .bf16⟩
  | .local _ .vmem, ⟨5, _⟩ => ⟨S2x512x768, .f32⟩
  | .local _ .vmem, ⟨6, _⟩ => ⟨S8x2x8x512x64, .bf16⟩
  | .local _ .vmem, ⟨7, _⟩ => ⟨S8x2x8x512x64, .bf16⟩
  | _, _ => ⟨S2x512x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_15 : BitVec 32 := 1#32
  let v27 : BitVec 32 := Scalar.muli v25 c1_i32_15
  let v28 : BitVec 32 := Scalar.addi c0_i32_16 v27
  v28.toNat
def k0_dev2 (d0 : Dev nD) : Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_39 : BitVec 32 := 1#32
  let v41 : BitVec 32 := Scalar.muli v13 c1_i32_39
  let v42 : BitVec 32 := Scalar.addi c0_i32_40 v41
  v42.toNat
def k0_dev3 (d0 : Dev nD) : Nat :=
  let c0_i32_54 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_53 : BitVec 32 := 1#32
  let v51 : BitVec 32 := Scalar.muli v13 c1_i32_53
  let v52 : BitVec 32 := Scalar.addi c0_i32_54 v51
  v52.toNat
def k0_dev4 (d0 : Dev nD) : Nat :=
  let c0_i32_121 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_120 : BitVec 32 := 1#32
  let v89 : BitVec 32 := Scalar.muli v13 c1_i32_120
  let v90 : BitVec 32 := Scalar.addi c0_i32_121 v89
  v90.toNat
def k0_dev5 (d0 : Dev nD) : Nat :=
  let c0_i32_135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_134 : BitVec 32 := 1#32
  let v99 : BitVec 32 := Scalar.muli v13 c1_i32_134
  let v100 : BitVec 32 := Scalar.addi c0_i32_135 v99
  v100.toNat
def k0_dev6 (d0 : Dev nD) : Nat :=
  let c0_i32_202 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_201 : BitVec 32 := 1#32
  let v137 : BitVec 32 := Scalar.muli v13 c1_i32_201
  let v138 : BitVec 32 := Scalar.addi c0_i32_202 v137
  v138.toNat
def k0_dev7 (d0 : Dev nD) : Nat :=
  let c0_i32_216 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_215 : BitVec 32 := 1#32
  let v147 : BitVec 32 := Scalar.muli v13 c1_i32_215
  let v148 : BitVec 32 := Scalar.addi c0_i32_216 v147
  v148.toNat
def k0_dev8 (d0 : Dev nD) : Nat :=
  let c0_i32_283 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_282 : BitVec 32 := 1#32
  let v185 : BitVec 32 := Scalar.muli v13 c1_i32_282
  let v186 : BitVec 32 := Scalar.addi c0_i32_283 v185
  v186.toNat
def k0_dev9 (d0 : Dev nD) : Nat :=
  let c0_i32_297 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_296 : BitVec 32 := 1#32
  let v195 : BitVec 32 := Scalar.muli v13 c1_i32_296
  let v196 : BitVec 32 := Scalar.addi c0_i32_297 v195
  v196.toNat
def k0_dev10 (d0 : Dev nD) : Nat :=
  let c0_i32_364 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_363 : BitVec 32 := 1#32
  let v233 : BitVec 32 := Scalar.muli v13 c1_i32_363
  let v234 : BitVec 32 := Scalar.addi c0_i32_364 v233
  v234.toNat
def k0_dev11 (d0 : Dev nD) : Nat :=
  let c0_i32_378 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_377 : BitVec 32 := 1#32
  let v243 : BitVec 32 := Scalar.muli v13 c1_i32_377
  let v244 : BitVec 32 := Scalar.addi c0_i32_378 v243
  v244.toNat
def k0_dev12 (d0 : Dev nD) : Nat :=
  let c0_i32_445 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_444 : BitVec 32 := 1#32
  let v281 : BitVec 32 := Scalar.muli v13 c1_i32_444
  let v282 : BitVec 32 := Scalar.addi c0_i32_445 v281
  v282.toNat
def k0_dev13 (d0 : Dev nD) : Nat :=
  let c0_i32_459 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_458 : BitVec 32 := 1#32
  let v291 : BitVec 32 := Scalar.muli v13 c1_i32_458
  let v292 : BitVec 32 := Scalar.addi c0_i32_459 v291
  v292.toNat
def k0_dev14 (d0 : Dev nD) : Nat :=
  let c0_i32_526 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_525 : BitVec 32 := 1#32
  let v329 : BitVec 32 := Scalar.muli v13 c1_i32_525
  let v330 : BitVec 32 := Scalar.addi c0_i32_526 v329
  v330.toNat
def k0_dev15 (d0 : Dev nD) : Nat :=
  let c0_i32_540 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_539 : BitVec 32 := 1#32
  let v339 : BitVec 32 := Scalar.muli v13 c1_i32_539
  let v340 : BitVec 32 := Scalar.addi c0_i32_540 v339
  v340.toNat
abbrev stage0_0 : Fin 1 → Memref sig .tc .vmem S2x512x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x8x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x512x8x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x512x768 : Shape := ⟨3, ![2, 512, 768]⟩
abbrev S768x512 : Shape := ⟨2, ![768, 512]⟩
abbrev S2x4096x8x64 : Shape := ⟨4, ![2, 4096, 8, 64]⟩
abbrev S512x768 : Shape := ⟨2, ![512, 768]⟩
abbrev S2x512x512 : Shape := ⟨3, ![2, 512, 512]⟩
abbrev S2x512x8x64 : Shape := ⟨4, ![2, 512, 8, 64]⟩
abbrev S512 : Shape := ⟨1, ![512]⟩
abbrev S_ : Shape := ⟨0, ![]⟩
abbrev S512x1 : Shape := ⟨2, ![512, 1]⟩
abbrev S4096 : Shape := ⟨1, ![4096]⟩
abbrev S1x4096 : Shape := ⟨2, ![1, 4096]⟩
abbrev S512x4096 : Shape := ⟨2, ![512, 4096]⟩
abbrev S2x8x512x4096 : Shape := ⟨4, ![2, 8, 512, 4096]⟩
abbrev S1x1x512x4096 : Shape := ⟨4, ![1, 1, 512, 4096]⟩
abbrev S2x8x512 : Shape := ⟨3, ![2, 8, 512]⟩
abbrev S2x8x512x1 : Shape := ⟨4, ![2, 8, 512, 1]⟩
abbrev S1x1x512x1 : Shape := ⟨4, ![1, 1, 512, 1]⟩
abbrev S2x8x64x512 : Shape := ⟨4, ![2, 8, 64, 512]⟩

abbrev nBuf : Space → Nat
  | .hbm => 142
  | .vmem => 0
  | .smem => 0
  | _ => 0

abbrev hbmTy0_0 (i : Nat) : BufTy := match i % 128 with
  | 0 => ⟨S2x512x768, .bf16⟩
  | 1 => ⟨S768x512, .bf16⟩
  | 2 => ⟨S2x4096x8x64, .bf16⟩
  | 3 => ⟨S2x4096x8x64, .bf16⟩
  | 4 => ⟨S512x768, .bf16⟩
  | 5 => ⟨S2x512x768, .f32⟩
  | 6 => ⟨S768x512, .f32⟩
  | 7 => ⟨S2x4096x8x64, .f32⟩
  | 8 => ⟨S2x4096x8x64, .f32⟩
  | 9 => ⟨S512x768, .f32⟩
  | 10 => ⟨S2x512x512, .f32⟩
  | 11 => ⟨S2x512x8x64, .f32⟩
  | 12 => ⟨S512, .i32⟩
  | 13 => ⟨S_, .i32⟩
  | 14 => ⟨S_, .i32⟩
  | 15 => ⟨S512, .i32⟩
  | 16 => ⟨S512, .i32⟩
  | 17 => ⟨S512, .i32⟩
  | 18 => ⟨S_, .i32⟩
  | 19 => ⟨S512, .i32⟩
  | 20 => ⟨S512, .i1⟩
  | 21 => ⟨S512, .i32⟩
  | 22 => ⟨S512, .i32⟩
  | 23 => ⟨S_, .i32⟩
  | 24 => ⟨S512, .i32⟩
  | 25 => ⟨S512, .i1⟩
  | 26 => ⟨S512, .i1⟩
  | 27 => ⟨S_, .i32⟩
  | 28 => ⟨S512, .i32⟩
  | 29 => ⟨S512, .i32⟩
  | 30 => ⟨S512, .i32⟩
  | 31 => ⟨S512x1, .i32⟩
  | 32 => ⟨S4096, .i32⟩
  | 33 => ⟨S_, .i32⟩
  | 34 => ⟨S_, .i32⟩
  | 35 => ⟨S4096, .i32⟩
  | 36 => ⟨S4096, .i32⟩
  | 37 => ⟨S4096, .i32⟩
  | 38 => ⟨S_, .i32⟩
  | 39 => ⟨S4096, .i32⟩
  | 40 => ⟨S4096, .i1⟩
  | 41 => ⟨S4096, .i32⟩
  | 42 => ⟨S4096, .i32⟩
  | 43 => ⟨S_, .i32⟩
  | 44 => ⟨S4096, .i32⟩
  | 45 => ⟨S4096, .i1⟩
  | 46 => ⟨S4096, .i1⟩
  | 47 => ⟨S_, .i32⟩
  | 48 => ⟨S4096, .i32⟩
  | 49 => ⟨S4096, .i32⟩
  | 50 => ⟨S4096, .i32⟩
  | 51 => ⟨S1x4096, .i32⟩
  | 52 => ⟨S512x4096, .i32⟩
  | 53 => ⟨S512x4096, .i32⟩
  | 54 => ⟨S512x4096, .i1⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S1x4096, .i32⟩
  | 62 => ⟨S1x4096, .i32⟩
  | 63 => ⟨S_, .i32⟩
  | 64 => ⟨S1x4096, .i32⟩
  | 65 => ⟨S1x4096, .i1⟩
  | 66 => ⟨S_, .i32⟩
  | 67 => ⟨S1x4096, .i32⟩
  | 68 => ⟨S1x4096, .i1⟩
  | 69 => ⟨S_, .i32⟩
  | 70 => ⟨S_, .i1⟩
  | 71 => ⟨S1x4096, .i1⟩
  | 72 => ⟨S1x4096, .i1⟩
  | 73 => ⟨S1x4096, .i1⟩
  | 74 => ⟨S1x4096, .i32⟩
  | 75 => ⟨S1x4096, .i32⟩
  | 76 => ⟨S1x4096, .i32⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S512x1, .i32⟩
  | 84 => ⟨S512x1, .i32⟩
  | 85 => ⟨S_, .i32⟩
  | 86 => ⟨S512x1, .i32⟩
  | 87 => ⟨S512x1, .i1⟩
  | 88 => ⟨S_, .i32⟩
  | 89 => ⟨S512x1, .i32⟩
  | 90 => ⟨S512x1, .i1⟩
  | 91 => ⟨S_, .i32⟩
  | 92 => ⟨S_, .i1⟩
  | 93 => ⟨S512x1, .i1⟩
  | 94 => ⟨S512x1, .i1⟩
  | 95 => ⟨S512x1, .i1⟩
  | 96 => ⟨S512x1, .i32⟩
  | 97 => ⟨S512x1, .i32⟩
  | 98 => ⟨S512x1, .i32⟩
  | 99 => ⟨S512x4096, .i32⟩
  | 100 => ⟨S512x4096, .i32⟩
  | 101 => ⟨S512x4096, .i1⟩
  | 102 => ⟨S512x4096, .i1⟩
  | 103 => ⟨S2x8x512x4096, .f32⟩
  | 104 => ⟨S_, .f32⟩
  | 105 => ⟨S2x8x512x4096, .f32⟩
  | 106 => ⟨S2x8x512x4096, .f32⟩
  | 107 => ⟨S1x1x512x4096, .i1⟩
  | 108 => ⟨S_, .f32⟩
  | 109 => ⟨S_, .f32⟩
  | 110 => ⟨S2x8x512x4096, .i1⟩
  | 111 => ⟨S2x8x512x4096, .f32⟩
  | 112 => ⟨S2x8x512x4096, .f32⟩
  | 113 => ⟨S_, .f32⟩
  | 114 => ⟨S2x8x512, .f32⟩
  | 115 => ⟨S2x8x512x1, .f32⟩
  | 116 => ⟨S2x8x512x4096, .f32⟩
  | 117 => ⟨S2x8x512x4096, .f32⟩
  | 118 => ⟨S2x8x512x4096, .f32⟩
  | 119 => ⟨S_, .i1⟩
  | 120 => ⟨S512, .i1⟩
  | 121 => ⟨S1x1x512x1, .i1⟩
  | 122 => ⟨S_, .f32⟩
  | 123 => ⟨S2x8x512, .f32⟩
  | 124 => ⟨S2x8x512x1, .f32⟩
  | 125 => ⟨S_, .f32⟩
  | 126 => ⟨S_, .f32⟩
  | 127 => ⟨S2x8x512x1, .i1⟩
  | _ => ⟨S2x512x768, .bf16⟩

abbrev hbmTy0_1 (i : Nat) : BufTy := match i % 128 with
  | 0 => ⟨S2x8x512x1, .f32⟩
  | 1 => ⟨S2x8x512x1, .f32⟩
  | 2 => ⟨S2x8x512x4096, .f32⟩
  | 3 => ⟨S2x8x512x4096, .f32⟩
  | 4 => ⟨S1x1x512x1, .i1⟩
  | 5 => ⟨S_, .f32⟩
  | 6 => ⟨S_, .f32⟩
  | 7 => ⟨S2x8x512x4096, .i1⟩
  | 8 => ⟨S2x8x512x4096, .f32⟩
  | 9 => ⟨S2x8x512x4096, .f32⟩
  | 10 => ⟨S2x8x64x512, .f32⟩
  | 11 => ⟨S2x512x8x64, .f32⟩
  | 12 => ⟨S2x512x512, .f32⟩
  | 13 => ⟨S2x512x768, .f32⟩
  | _ => ⟨S2x512x768, .bf16⟩

abbrev hbmTy (i : Nat) : BufTy := match i / 128 with
  | 0 => hbmTy0_0 i
  | 1 => hbmTy0_1 i
  | _ => ⟨S2x512x768, .bf16⟩

abbrev bufTy : (tb : Table) → Fin (tcTables nBuf tb) → BufTy
  | .hbm, ⟨i, _⟩ => hbmTy i
  | _, _ => ⟨S2x512x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_c_1 : Ref sig .tc := ⟨.hbm, 55, rfl⟩
abbrev main_call2_v0 : Ref sig .tc := ⟨.hbm, 56, rfl⟩
abbrev main_call2_c : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_c_1 : Ref sig .tc := ⟨.hbm, 63, rfl⟩
abbrev main_call2_v5 : Ref sig .tc := ⟨.hbm, 64, rfl⟩
abbrev main_call2_v6 : Ref sig .tc := ⟨.hbm, 65, rfl⟩
abbrev main_call2_c_2 : Ref sig .tc := ⟨.hbm, 66, rfl⟩
abbrev main_call2_v7 : Ref sig .tc := ⟨.hbm, 67, rfl⟩
abbrev main_call2_v8 : Ref sig .tc := ⟨.hbm, 68, rfl⟩
abbrev main_call2_c_3 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_v12 : Ref sig .tc := ⟨.hbm, 73, rfl⟩
abbrev main_call2_v13 : Ref sig .tc := ⟨.hbm, 74, rfl⟩
abbrev main_call2_v14 : Ref sig .tc := ⟨.hbm, 75, rfl⟩
abbrev main_v16 : Ref sig .tc := ⟨.hbm, 76, rfl⟩
abbrev main_c_2 : Ref sig .tc := ⟨.hbm, 77, rfl⟩
abbrev main_call3_v0 : Ref sig .tc := ⟨.hbm, 78, rfl⟩
abbrev main_call3_c : Ref sig .tc := ⟨.hbm, 79, rfl⟩
abbrev main_call3_v1 : Ref sig .tc := ⟨.hbm, 80, rfl⟩
abbrev main_call3_c_0 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_c_1 : Ref sig .tc := ⟨.hbm, 85, rfl⟩
abbrev main_call3_v5 : Ref sig .tc := ⟨.hbm, 86, rfl⟩
abbrev main_call3_v6 : Ref sig .tc := ⟨.hbm, 87, rfl⟩
abbrev main_call3_c_2 : Ref sig .tc := ⟨.hbm, 88, rfl⟩
abbrev main_call3_v7 : Ref sig .tc := ⟨.hbm, 89, rfl⟩
abbrev main_call3_v8 : Ref sig .tc := ⟨.hbm, 90, rfl⟩
abbrev main_call3_c_3 : Ref sig .tc := ⟨.hbm, 91, rfl⟩
abbrev main_call3_v9 : Ref sig .tc := ⟨.hbm, 92, rfl⟩
abbrev main_call3_v10 : Ref sig .tc := ⟨.hbm, 93, rfl⟩
abbrev main_call3_v11 : Ref sig .tc := ⟨.hbm, 94, rfl⟩
abbrev main_call3_v12 : Ref sig .tc := ⟨.hbm, 95, rfl⟩
abbrev main_call3_v13 : Ref sig .tc := ⟨.hbm, 96, rfl⟩
abbrev main_call3_v14 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_v21 : Ref sig .tc := ⟨.hbm, 102, rfl⟩
abbrev main_v22 : Ref sig .tc := ⟨.hbm, 103, rfl⟩
abbrev main_cst : Ref sig .tc := ⟨.hbm, 104, rfl⟩
abbrev main_v23 : Ref sig .tc := ⟨.hbm, 105, rfl⟩
abbrev main_v24 : Ref sig .tc := ⟨.hbm, 106, rfl⟩
abbrev main_v25 : Ref sig .tc := ⟨.hbm, 107, rfl⟩
abbrev main_cst_3 : Ref sig .tc := ⟨.hbm, 108, rfl⟩
abbrev main_call4_v0 : Ref sig .tc := ⟨.hbm, 109, rfl⟩
abbrev main_call4_v1 : Ref sig .tc := ⟨.hbm, 110, rfl⟩
abbrev main_call4_v2 : Ref sig .tc := ⟨.hbm, 111, rfl⟩
abbrev main_v26 : Ref sig .tc := ⟨.hbm, 112, rfl⟩
abbrev main_cst_4 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_v30 : Ref sig .tc := ⟨.hbm, 117, rfl⟩
abbrev main_v31 : Ref sig .tc := ⟨.hbm, 118, rfl⟩
abbrev main_c_5 : Ref sig .tc := ⟨.hbm, 119, rfl⟩
abbrev main_v32 : Ref sig .tc := ⟨.hbm, 120, rfl⟩
abbrev main_v33 : Ref sig .tc := ⟨.hbm, 121, rfl⟩
abbrev main_cst_6 : Ref sig .tc := ⟨.hbm, 122, rfl⟩
abbrev main_v34 : Ref sig .tc := ⟨.hbm, 123, rfl⟩
abbrev main_v35 : Ref sig .tc := ⟨.hbm, 124, rfl⟩
abbrev main_cst_7 : Ref sig .tc := ⟨.hbm, 125, rfl⟩
abbrev main_call5_v0 : Ref sig .tc := ⟨.hbm, 126, rfl⟩
abbrev main_call5_v1 : Ref sig .tc := ⟨.hbm, 127, rfl⟩
abbrev main_call5_v2 : Ref sig .tc := ⟨.hbm, 128, rfl⟩
abbrev main_v36 : Ref sig .tc := ⟨.hbm, 129, rfl⟩
abbrev main_v37 : Ref sig .tc := ⟨.hbm, 130, rfl⟩
abbrev main_v38 : Ref sig .tc := ⟨.hbm, 131, rfl⟩
abbrev main_v39 : Ref sig .tc := ⟨.hbm, 132, rfl⟩
abbrev main_cst_8 : Ref sig .tc := ⟨.hbm, 133, rfl⟩
abbrev main_call6_v0 : Ref sig .tc := ⟨.hbm, 134, rfl⟩
abbrev main_call6_v1 : Ref sig .tc := ⟨.hbm, 135, rfl⟩
abbrev main_call6_v2 : Ref sig .tc := ⟨.hbm, 136, rfl⟩
abbrev main_v40 : Ref sig .tc := ⟨.hbm, 137, rfl⟩
abbrev main_v41 : Ref sig .tc := ⟨.hbm, 138, rfl⟩
abbrev main_v42 : Ref sig .tc := ⟨.hbm, 139, rfl⟩
abbrev main_v43 : Ref sig .tc := ⟨.hbm, 140, rfl⟩
abbrev main_v44 : Ref sig .tc := ⟨.hbm, 141, rfl⟩

abbrev nD : Nat := 1
abbrev τ : Topo := Topo.v7x

variable {F : FTy → Type} [FloatOps F]
-- ==== Proof.Ring.Common.lean ====
/-
# The ring: cells, slots, contents and the one-round schedule

Eight devices pass their block of the keys and of the values around a ring. Device `c` keeps its own block in
slot 0 of each of its two ring buffers; at hop `h` it copies its slot `h` into slot `h + 1` of the next device,
for the keys and for the values, and waits for its own two copies and for the two that arrive. After seven hops
slot `j` of device `c` holds the block of the device `j` places before it.

Before the first hop every device signals the device before it on the barrier semaphore and waits for one unit:
the unit hands over slots 1 to 7 of the signaller's two ring buffers, which the hops then fill.

Every semaphore takes part in one round with one contribution.
-/
module

public import proofs.«01_k».proof.Proof.Gen.KernelIdeal.Frame
public import proofs.«01_k».proof.Proof.Gen.KernelIdeal.Skeleton
public import Idealize.ShloMosaic.Lib.Pipeline.Launch
public import Idealize.ShloMosaic.Lib.Pipeline.Kit
public import Idealize.ShloMosaic.Lib.Tactic
public import Idealize.ShloMosaic.Lib.Pointwise.Index

@[expose] public section

noncomputable section

namespace Cert.KernelIdeal.Heads

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Ghost state: the pipeline's cells on the left, the ring's on the right -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The ring of devices -/

set_option backward.proofsInPublic true in
/-- The device that `c` copies to. -/
def nxt (c : Dev nD) : Dev nD := ⟨(c.val + 1) % 8, Nat.mod_lt _ (by decide)⟩
set_option backward.proofsInPublic true in
/-- The device that copies to `c`. -/
def prv (c : Dev nD) : Dev nD := ⟨(c.val + 7) % 8, Nat.mod_lt _ (by decide)⟩
set_option backward.proofsInPublic true in
/-- The device whose block ends in slot `j` of device `c`. -/
def back (c : Dev nD) (j : Fin 8) : Dev nD := ⟨(c.val + (8 - j.val)) % 8, Nat.mod_lt _ (by decide)⟩

/-- Left of the right neighbour is the device itself. -/
theorem prv_nxt (c : Dev nD) : prv (nxt c) = c := by revert c; decide
/-- Right of the left neighbour is the device itself. -/
theorem nxt_prv (c : Dev nD) : nxt (prv c) = c := by revert c; decide
/-- No steps back is the device itself. -/
theorem back_zero (c : Dev nD) : back c 0 = c := by revert c; decide
/-- One step more back from the right neighbour is as many back from the device. -/
theorem back_succ : ∀ (c : Dev nD) (h : Fin 7), back (nxt c) h.succ = back c h.castSucc := by decide

/-- The ring as a permutation of the devices. -/
def ring : Dev nD ≃ Dev nD := ⟨nxt, prv, prv_nxt, nxt_prv⟩

/-- The device that the entry signal names is the left neighbour; those that the fourteen copies name are the right one. -/
theorem dev1_eq (c : Dev nD) : (⟨k0_dev1 c, k0_dev1_lt c⟩ : Dev nD) = prv c := by revert c; decide +kernel
theorem dev2_eq (c : Dev nD) : (⟨k0_dev2 c, k0_dev2_lt c⟩ : Dev nD) = nxt c := by revert c; decide +kernel
theorem dev3_eq (c : Dev nD) : (⟨k0_dev3 c, k0_dev3_lt c⟩ : Dev nD) = nxt c := dev2_eq c
theorem dev4_eq (c : Dev nD) : (⟨k0_dev4 c, k0_dev4_lt c⟩ : Dev nD) = nxt c := dev2_eq c
theorem dev5_eq (c : Dev nD) : (⟨k0_dev5 c, k0_dev5_lt c⟩ : Dev nD) = nxt c := dev2_eq c
theorem dev6_eq (c : Dev nD) : (⟨k0_dev6 c, k0_dev6_lt c⟩ : Dev nD) = nxt c := dev2_eq c
theorem dev7_eq (c : Dev nD) : (⟨k0_dev7 c, k0_dev7_lt c⟩ : Dev nD) = nxt c := dev2_eq c
theorem dev8_eq (c : Dev nD) : (⟨k0_dev8 c, k0_dev8_lt c⟩ : Dev nD) = nxt c := dev2_eq c
theorem dev9_eq (c : Dev nD) : (⟨k0_dev9 c, k0_dev9_lt c⟩ : Dev nD) = nxt c := dev2_eq c
theorem dev10_eq (c : Dev nD) : (⟨k0_dev10 c, k0_dev10_lt c⟩ : Dev nD) = nxt c := dev2_eq c
theorem dev11_eq (c : Dev nD) : (⟨k0_dev11 c, k0_dev11_lt c⟩ : Dev nD) = nxt c := dev2_eq c
theorem dev12_eq (c : Dev nD) : (⟨k0_dev12 c, k0_dev12_lt c⟩ : Dev nD) = nxt c := dev2_eq c
theorem dev13_eq (c : Dev nD) : (⟨k0_dev13 c, k0_dev13_lt c⟩ : Dev nD) = nxt c := dev2_eq c
theorem dev14_eq (c : Dev nD) : (⟨k0_dev14 c, k0_dev14_lt c⟩ : Dev nD) = nxt c := dev2_eq c
theorem dev15_eq (c : Dev nD) : (⟨k0_dev15 c, k0_dev15_lt c⟩ : Dev nD) = nxt c := dev2_eq c

/-! ## Semaphores and cells -/

/-- Every step has its element of a semaphore array. -/
theorem inb7 (h : ℕ) (hh : h < 7) : ∀ a, (![h] : Fin 1 → Nat) a + S1.size a ≤ S7.size a := by
  intro a; fin_cases a; show h + 1 ≤ 7; omega

/-- Which buffer a hop's copy reads and fills: `false` the keys', `true` the values'. -/
abbrev sendArr : Bool → DmaSems sig S7 | false => cc0_scratch2 | true => cc0_scratch4
abbrev recvArr : Bool → DmaSems sig S7 | false => cc0_scratch3 | true => cc0_scratch5

/-- One semaphore of a row of seven. -/
abbrev semOf (A : DmaSems sig S7) (h : ℕ) (hh : h < 7) : DmaSem sig :=
  ((A.slice (Rect.unit (s := S7) ![h] S1.size (inb7 h hh))).squeeze S_ squeezes_S1_S_).sem

/-- The barrier semaphore. -/
abbrev barS : Sem sig := (SemArray.scalar (sig.barrier 0 rfl) : Sems sig S_).sem

/-- The ring's semaphores on one device: the barrier (`none`), and for keys and values and each hop the one credited
    when the device's copy has left (`false`) and the one credited when a copy has arrived (`true`). -/
abbrev CK : Type := Option (Bool × Bool × Fin 7)

/-- The semaphore of a kind of cell. -/
abbrev csem : CK → SemLoc sig
  | none => .reg barS
  | some (false, w, h) => .dma (semOf (sendArr w) h.val h.isLt)
  | some (true, w, h) => .dma (semOf (recvArr w) h.val h.isLt)

/-- Different kinds of cell are different semaphores. -/
theorem csem_injective : Function.Injective csem := by decide +kernel

/-- The cell of a device and a kind; below, the barrier's, the sending ones and the receiving ones. -/
abbrev kcell (ck : Dev nD × CK) : GSem nD τ sig := ((ck.1 : Thread nD τ), csem ck.2)
abbrev barCell (c : Dev nD) : GSem nD τ sig := kcell (c, none)
abbrev sendCell (c : Dev nD) (w : Bool) (h : ℕ) (hh : h < 7) : GSem nD τ sig := kcell (c, some (false, w, ⟨h, hh⟩))
abbrev recvCell (c : Dev nD) (w : Bool) (h : ℕ) (hh : h < 7) : GSem nD τ sig := kcell (c, some (true, w, ⟨h, hh⟩))

/-- Different devices or kinds are different cells. -/
theorem kcell_injective : Function.Injective (kcell : Dev nD × CK → GSem nD τ sig) := by
  rintro ⟨c, k⟩ ⟨c', k'⟩ h
  have h1 : c = c' := by have := congrArg (fun g : GSem nD τ sig => g.1.1) h; exact this
  have h2 : k = k' := csem_injective (congrArg Prod.snd h)
  rw [h1, h2]

/-- Which of the ring's semaphores a semaphore is, if any. -/
def which (s : SemLoc sig) : Option CK := Function.partialInv csem s

/-- The kind of the semaphore of a kind is that kind. -/
theorem which_csem (k : CK) : which (csem k) = some k := Function.partialInv_left csem_injective k
/-- A semaphore with a kind is that kind's semaphore. -/
theorem which_some {s : SemLoc sig} {k : CK} (h : which s = some k) : csem k = s :=
  (Function.partialInv_of_injective csem_injective k s).mp h
/-- A semaphore that belongs to no kind has none. -/
theorem which_none {s : SemLoc sig} (h : ∀ k, csem k ≠ s) : which s = none := by
  cases hw : which s with
  | none => rfl
  | some k => exact absurd (which_some hw) (h k)

/-! ## The ring buffers and their slots -/

/-- The scratch of the keys, and that of the values. -/
abbrev scrM : Bool → Memref sig .tc .vmem S8x2x8x512x64 .bf16
  | false => Memref.whole cc0_scratch0 | true => Memref.whole cc0_scratch1

/-- Every slot lies within the scratch. -/
theorem inb8 (j : ℕ) (hj : j < 8) : ∀ a, (![j, 0, 0, 0, 0] : Fin 5 → Nat) a + S1x2x8x512x64.size a ≤ S8x2x8x512x64.size a := by
  intro a; fin_cases a
  · show j + 1 ≤ 8; omega
  all_goals exact Nat.le_refl _

/-- The rectangle of a slot. -/
abbrev slotR (j : ℕ) (hj : j < 8) : Rect S8x2x8x512x64 :=
  Rect.unit (s := S8x2x8x512x64) ![j, 0, 0, 0, 0] S1x2x8x512x64.size (inb8 j hj)

/-- Slot `j` of a ring buffer. -/
abbrev slotOf (A : Memref sig .tc .vmem S8x2x8x512x64 .bf16) (j : ℕ) (hj : j < 8) : Memref sig .tc .vmem S2x8x512x64 .bf16 :=
  (A.slice (slotR j hj) (fun _ => rfl)).squeeze S2x8x512x64 squeezes_S1x2x8x512x64_S2x8x512x64

/-- The bytes' credit of one copy of a slot. -/
abbrev N : ℕ := (slotOf (scrM false) 0 (by decide)).view.dmaCredit
/-- A copy of one slot pays a positive credit. -/
theorem N_pos : 0 < N := View.dmaCredit_pos _ (by decide)

/-- Where an element of slot `j` lies in the ring buffer. -/
theorem slot_emb (w : Bool) (j : ℕ) (hj : j < 8) (x : S2x8x512x64.Idx) :
    (slotR j hj).emb (Shape.reshapeEquiv (squeezes_S1x2x8x512x64_S2x8x512x64).numel_eq x) = ix5 (n0 := 8) (n1 := 2) (n2 := 8) (n3 := 512) (n4 := 64) ⟨j, hj⟩ (x 0) (x 1) (x 2) (x 3) := by
  rw [show Shape.reshapeEquiv (squeezes_S1x2x8x512x64_S2x8x512x64).numel_eq x = Fin.cons ⟨0, Nat.one_pos⟩ x from
    Shape.reshapeEquiv_cons_one (d := ![2, 8, 512, 64]) _ x]
  funext a
  apply Fin.ext
  match a with
  | ⟨0, _⟩ => exact (by show j + 1 * 0 = j; omega)
  | ⟨1, _⟩ => exact (by show 0 + 1 * (x 0).val = (x 0).val; omega)
  | ⟨2, _⟩ => exact (by show 0 + 1 * (x 1).val = (x 1).val; omega)
  | ⟨3, _⟩ => exact (by show 0 + 1 * (x 2).val = (x 2).val; omega)
  | ⟨4, _⟩ => exact (by show 0 + 1 * (x 3).val = (x 3).val; omega)

/-! ## Contents -/

/-- The block of the keys or of the values that device `c` is given. -/
def blk (w : Bool) (c : Dev nD) : S2x512x8x64.Idx → Elt F .bf16 :=
  match w with | false => iblk m c 3 t0_0 | true => iblk m c 4 t0_0

/-- What the ring buffer of device `c` holds in the end, element by element. -/
def gathered (w : Bool) (c : Dev nD) : S8x2x8x512x64.Idx → Elt F .bf16 :=
  fun i => blk m w (back c (i 0)) (ix4 (n0 := 2) (n1 := 512) (n2 := 8) (n3 := 64) (i 1) (i 3) (i 2) (i 4))

/-- The same as contents of the buffer. -/
def full : (w : Bool) → (c : Dev nD) → Buf (Elt F) ((scrM w).view.loc (c : Thread nD τ))
  | false, c => gathered m false c
  | true, c => gathered m true c

/-- Slot `j` of device `c` holds the block of the device `j` places back, heads before positions. -/
theorem read_slot (w : Bool) (c : Dev nD) (j : ℕ) (hj : j < 8) :
    (slotOf (scrM w) j hj).view.read (Elt F) (full m w c)
      = fun x => blk m w (back c ⟨j, hj⟩) (ix4 (n0 := 2) (n1 := 512) (n2 := 8) (n3 := 64) (x 0) (x 2) (x 1) (x 3)) := by
  funext x
  cases w
  · show gathered m false c ((slotR j hj).emb (Shape.reshapeEquiv (squeezes_S1x2x8x512x64_S2x8x512x64).numel_eq x)) = _
    rw [slot_emb false]; rfl
  · show gathered m true c ((slotR j hj).emb (Shape.reshapeEquiv (squeezes_S1x2x8x512x64_S2x8x512x64).numel_eq x)) = _
    rw [slot_emb true]; rfl

/-- One hop: what device `c` reads from its slot `h` is what the next device is to hold in its slot `h + 1`. -/
theorem read_hop (w : Bool) (c : Dev nD) (h : ℕ) (hh : h < 7) :
    (slotOf (scrM w) (h + 1) (by omega)).view.read (Elt F) (full m w (nxt c)) = (slotOf (scrM w) h (by omega)).view.read (Elt F) (full m w c) := by
  rw [read_slot, read_slot, show back (nxt c) ⟨h + 1, by omega⟩ = back c ⟨h, by omega⟩ from back_succ c ⟨h, hh⟩]

/-- Slot `j` of a ring buffer of device `c`, owned with contents `f`. -/
def slotPts (w : Bool) (c : Dev nD) (j : ℕ) (hj : j < 8) (f : Buf (Elt F) ((scrM w).view.loc (c : Thread nD τ))) : sProp 𝕄 :=
  (slotOf (scrM w) j hj).view.loc (c : Thread nD τ) ↦[(slotOf (scrM w) j hj).view.set]{fullShare} f

omit [FloatOps F] in
/-- A slot's ownership may be stored in a cell. -/
instance slotPts_storable (w : Bool) (c : Dev nD) (j : ℕ) (hj : j < 8) (f) : BI.Storable (upEmb : UEmb _ 𝕄) (slotPts (F := F) w c j hj f) := by
  unfold slotPts; infer_instance

/-- A slot just written holds what it was written with, whatever it held. -/
theorem written_slot (w : Bool) (c : Dev nD) (j : ℕ) (hj : j < 8) (g f : Buf (Elt F) ((scrM w).view.loc (c : Thread nD τ)))
    (v : S2x8x512x64.Idx → Elt F .bf16) (hv : (slotOf (scrM w) j hj).view.read (Elt F) f = v) :
    ((slotOf (scrM w) j hj).view.loc (c : Thread nD τ) ↦[(slotOf (scrM w) j hj).view.set]{fullShare}
        (slotOf (scrM w) j hj).view.write (Elt F) g v Finset.univ : sProp 𝕄) = slotPts w c j hj f := by
  unfold slotPts
  refine pointsTo_congr fun i hi => ?_
  obtain ⟨x, -, rfl⟩ := Finset.mem_map.mp hi
  rw [View.write_emb_of_mem _ _ (Finset.mem_univ _), ← hv]
  unfold View.read
  simp

/-! ## The schedule -/

/-- What the next device's signal hands device `c`: the slots its seven hops fill, whatever they hold. -/
def barPay (c : Dev nD) : sProp 𝕄 :=
  bigSep Finset.univ fun h : Fin 7 => iprop((∃ f, slotPts false (nxt c) (h.val + 1) (Nat.succ_lt_succ h.isLt) f)
    ∗ ∃ f, slotPts true (nxt c) (h.val + 1) (Nat.succ_lt_succ h.isLt) f)

/-- What a unit on each of device `c`'s semaphores hands it. -/
def payOf (c : Dev nD) : CK → sProp 𝕄
  | none => barPay c
  | some (false, w, h) => slotPts w c h.val (by omega) (full m w c)
  | some (true, w, h) => slotPts w c (h.val + 1) (by omega) (full m w c)

/-- So may what each cell hands over. -/
instance payOf_storable (c : Dev nD) (k : CK) : BI.Storable (upEmb : UEmb _ 𝕄) (payOf (F := F) m c k) := by
  match k with
  | none => unfold payOf barPay; infer_instance
  | some (false, w, h) => unfold payOf; infer_instance
  | some (true, w, h) => unfold payOf; infer_instance

/-- One round, one contribution to each cell. -/
def ringRd : Rounds.Schedule (GSem nD τ sig) Unit 𝕄 where
  duties _ r := if r = 0 then {()} else ∅
  unitless _ := False
  amount g _ _ := if g.2 = .reg barS then 1 else N
  payload g _ _ := match which g.2 with
    | some k => payOf m g.1.1 k
    | none => iprop(emp)
  amount_pos g _ _ _ := by
    by_cases h : g.2 = .reg barS
    · rw [if_pos h]; exact Nat.one_pos
    · rw [if_neg h]; exact N_pos

/-- So may every payload of the protocol. -/
instance ringRd_payload_storable (g : GSem nD τ sig) (r : ℕ) (d : Unit) :
    BI.Storable (upEmb : UEmb _ 𝕄) ((ringRd (F := F) m).payload g r d) := by
  show BI.Storable upEmb (match which g.2 with | some k => payOf m g.1.1 k | none => iprop(emp))
  split <;> infer_instance

/-- Each cell is paid once, in its first round. -/
theorem duties_zero (g : GSem nD τ sig) : (ringRd (F := F) m).duties g 0 = {()} := by dsimp only [ringRd]; exact if_pos rfl
/-- It is not paid again. -/
theorem duties_later (g : GSem nD τ sig) : ∀ r, 1 ≤ r → (ringRd (F := F) m).duties g r = ∅ :=
  fun r hr => if_neg (by omega)
/-- The one payment is a duty of the first round. -/
theorem mem_duties (g : GSem nD τ sig) : () ∈ (ringRd (F := F) m).duties g 0 := by rw [duties_zero]; exact Finset.mem_singleton_self _

/-- The barrier is paid one. -/
theorem amount_bar (c : Dev nD) : (ringRd (F := F) m).amount (barCell c) 0 () = 1 := by dsimp only [ringRd]; exact if_pos rfl
/-- A copy's cell is paid the credit of one slot. -/
theorem amount_dma (c : Dev nD) (q : Bool × Bool × Fin 7) : (ringRd (F := F) m).amount (kcell (c, some q)) 0 () = N :=
  if_neg fun h => by
    have := csem_injective (a₁ := some q) (a₂ := none) h
    cases this

/-- The barrier's round is over at one. -/
theorem expect_bar (c : Dev nD) : (ringRd (F := F) m).expect (barCell c) 0 = 1 := by
  unfold Schedule.expect Schedule.amountOf; rw [duties_zero, Finset.sum_singleton, amount_bar]
/-- A copy's round is over at the credit of one slot. -/
theorem expect_dma (c : Dev nD) (q : Bool × Bool × Fin 7) : (ringRd (F := F) m).expect (kcell (c, some q)) 0 = N := by
  unfold Schedule.expect Schedule.amountOf; rw [duties_zero, Finset.sum_singleton, amount_dma]

/-- The payload of a cell is what its kind hands over. -/
theorem payload_eq (c : Dev nD) (k : CK) : (ringRd (F := F) m).payload (kcell (c, k)) 0 () = payOf m c k := by
  show (match which (csem k) with | some k => payOf m c k | none => iprop(emp)) = _
  rw [which_csem]

/-- What waiting out the round of a cell yields. -/
theorem rest_eq (c : Dev nD) (k : CK) :
    bigSep ((ringRd (F := F) m).duties (kcell (c, k)) 0 \ ∅) (fun d => (ringRd (F := F) m).payload (kcell (c, k)) 0 d) = payOf m c k := by
  rw [Finset.sdiff_empty, duties_zero, bigSep_singleton, payload_eq]

/-! ## What is owed, and the levels that order the waits -/

/-- The arrival a device owes at the `n`-th of its fourteen copies: keys and values alternate, hop by hop. -/
abbrev arr (c : Dev nD) (n : ℕ) : GSem nD τ sig :=
  recvCell (nxt c) (n % 2 == 1) (n / 2 % 7) (Nat.mod_lt _ (by decide))

/-- What device `c` owes when `k` of its copies are still to come. -/
def owed (c : Dev nD) : ℕ → CellTallies nD τ sig Unit
  | 0 => 0
  | k + 1 => owed c k + tallyAt (arr c (13 - k)) () N

/-- What it owes at launch: the copies and the signal to the device before it. -/
def O₀ (c : Dev nD) : CellTallies nD τ sig Unit := owed c 14 + tallyAt (barCell (prv c)) () 1

/-- The levels: each cell of a core has one name. -/
def L (g : GSem nD τ sig) : Finset Unit := if g.1.2 = .tc then {()} else ∅

/-- The barrier lies above what the pipeline and the departures use, arrivals above it in the order of the hops. -/
def lv (g : GSem nD τ sig) (_ : Unit) : ℕ := match which g.2 with
  | some none => 1
  | some (some (true, _, h)) => 2 + h.val
  | _ => 0

/-- A cell of another thread has none. -/
theorem L_of_ne (g : GSem nD τ sig) (h : g.1.2 ≠ .tc) : L g = ∅ := if_neg h
/-- A cell of a core has the one. -/
theorem L_tc (c : Dev nD) (sm : SemLoc sig) : L ((c : Thread nD τ), sm) = {()} := if_pos rfl

/-- The barrier is at level one, -/
theorem lv_bar (c : Dev nD) (u : Unit) : lv (barCell c) u = 1 := by show (match which (csem none) with | some none => 1 | some (some (true, _, h)) => 2 + h.val | _ => 0) = 1; rw [which_csem]
/-- a sending cell at level zero, -/
theorem lv_send (c : Dev nD) (w : Bool) (h : ℕ) (hh : h < 7) (u : Unit) : lv (sendCell c w h hh) u = 0 := by
  show (match which (csem (some (false, w, ⟨h, hh⟩))) with | some none => 1 | some (some (true, _, h)) => 2 + h.val | _ => 0) = 0; rw [which_csem]
/-- and the receiving cells above the barrier, in the order of the steps. -/
theorem lv_recv (c : Dev nD) (w : Bool) (h : ℕ) (hh : h < 7) (u : Unit) : lv (recvCell c w h hh) u = 2 + h := by
  show (match which (csem (some (true, w, ⟨h, hh⟩))) with | some none => 1 | some (some (true, _, h)) => 2 + h.val | _ => 0) = _; rw [which_csem]

/-- Every arrival still owed with `k` copies to come is one of the last `k`. -/
theorem owed_pos {c : Dev nD} {k : ℕ} (hk : k ≤ 14) {g : GSem nD τ sig} {u : Unit} (h : 0 < owed c k g u) :
    ∃ n, 14 - k ≤ n ∧ n < 14 ∧ g = arr c n := by
  induction k with
  | zero => exact absurd h (Nat.lt_irrefl 0)
  | succ k ih =>
    rw [owed, Pi.add_apply, Finsupp.add_apply, tallyAt_apply] at h
    by_cases hg : g = arr c (13 - k) ∧ u = ()
    · exact ⟨13 - k, by omega, by omega, hg.1⟩
    · rw [if_neg hg, Nat.add_zero] at h
      obtain ⟨n, h1, h2, h3⟩ := ih (by omega) h
      exact ⟨n, by omega, h2, h3⟩

/-- A cell whose level lies below every arrival still owed may be waited on. -/
theorem mayWait_owed (c : Dev nD) (s : SemLoc sig) (k : ℕ) (hk : k ≤ 14) (l : ℕ) (hl : lv ((c : Thread nD τ), s) () = l)
    (hlt : l < 2 + (14 - k) / 2) : (levAts L lv : sProp 𝕄) ⊢ MayWait (c : Thread nD τ) s () (owed c k) := by
  refine MayOwe.of_cut (L := L) (lev := lv) l (fun p hp => by rw [Finset.mem_singleton.mp hp, L_tc]; exact Finset.mem_singleton_self _)
    (fun g u hg => ?_) (fun p hp => by rw [Finset.mem_singleton.mp hp]; exact hl.le) (fun g u hg => ?_)
  · obtain ⟨n, -, -, rfl⟩ := owed_pos hk hg; exact Finset.mem_singleton_self _
  · obtain ⟨n, h1, h2, rfl⟩ := owed_pos hk hg
    rw [lv_recv, Nat.mod_eq_of_lt (by omega)]
    have := Nat.div_le_div_right (c := 2) h1
    omega

/-- What a device owes at entry: the signal to its left neighbour, and its copies' arrivals. -/
theorem O₀_pos {c : Dev nD} {g : GSem nD τ sig} {u : Unit} (h : 0 < O₀ c g u) : g = barCell (prv c) ∨ ∃ n, n < 14 ∧ g = arr c n := by
  unfold O₀ at h
  rw [Pi.add_apply, Finsupp.add_apply, tallyAt_apply] at h
  by_cases hg : g = barCell (prv c) ∧ u = ()
  · exact .inl hg.1
  · rw [if_neg hg, Nat.add_zero] at h
    obtain ⟨n, -, h2, h3⟩ := owed_pos le_rfl h
    exact .inr ⟨n, h2, h3⟩

/-- A staging semaphore may be waited on whatever of this is owed. -/
theorem mayWait_stage (c : Dev nD) (q : DmaSem sig) (hq : ∀ k, csem k ≠ .dma q) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | ⟨n, -, rfl⟩ <;> exact Finset.mem_singleton_self _)
      (fun p hp => by rw [Finset.mem_singleton.mp hp]; unfold lv; rw [which_none hq])
      (fun g u hg => by
        rcases O₀_pos hg with rfl | ⟨n, -, rfl⟩
        · rw [lv_bar]; exact Nat.one_pos
        · rw [lv_recv]; omega)
  · rw [MayWait_zero]; iintro -; iempintro

end Cert.KernelIdeal.Heads

end
-- ==== Proof.Ring.Hop.lean ====
/-
# One hop of the ring

A device sends slot `h` of each ring buffer to slot `h + 1` of the next device, then waits for its two departures
and for the two arrivals. `hop` runs the six operations.
-/
module

public import proofs.«01_k».proof.Proof.Ring.Common

@[expose] public section

noncomputable section

namespace Cert.KernelIdeal.Heads

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- No variants are needed. -/
abbrev 𝒱₀ : Variants := Variants.none

/-- Every ring cell's invariant, under the names `K`, and that each has reached its round. -/
def records (K : Dev nD × CK → ℕ) : sProp 𝕄 :=
  iprop((bigSep Finset.univ fun ck : Dev nD × CK => cellInv ER (ringRd m) (K ck) (kcell ck))
    ∗ bigSep Finset.univ fun ck : Dev nD × CK => reached ER (kcell ck) 0)

/-- The cells' records may be used any number of times. -/
instance records_persistent (K : Dev nD × CK → ℕ) : BI.Persistent (records m K) := by unfold records; infer_instance

/-- They hold every cell's invariant, -/
theorem records_inv (K : Dev nD × CK → ℕ) (ck : Dev nD × CK) : records m K ⊢ cellInv ER (ringRd m) (K ck) (kcell ck) := by
  unfold records; iintro ⟨H, -⟩
  ihave H' := (show (bigSep Finset.univ fun ck : Dev nD × CK => (cellInv ER (ringRd m) (K ck) (kcell ck) : sProp 𝕄)) ⊢ cellInv ER (ringRd m) (K ck) (kcell ck) from bigSep_elim (Finset.mem_univ ck)) $$ H
  iexact H'

/-- and that every cell has reached its first round. -/
theorem records_reached (K : Dev nD × CK → ℕ) (ck : Dev nD × CK) : records m K ⊢ (reached ER (kcell ck) 0 : sProp 𝕄) := by
  unfold records; iintro ⟨-, H⟩
  ihave H' := (show (bigSep Finset.univ fun ck : Dev nD × CK => (reached ER (kcell ck) 0 : sProp 𝕄)) ⊢ reached ER (kcell ck) 0 from bigSep_elim (Finset.mem_univ ck)) $$ H
  iexact H'

/-- What device `c` owes, whatever it has waited for. -/
def owesS (c : Dev nD) (O : CellTallies nD τ sig Unit) : sProp 𝕄 := iprop(∃ W, owes (c : Thread nD τ) O W)

/-- What device `c` brings to hop `h` on one buffer: its place in the rounds of its two cells, the two contributions it
    makes, and the credit for the one that it receives. -/
def pend (c : Dev nD) (w : Bool) (h : ℕ) (hh : h < 7) : sProp 𝕄 :=
  iprop(atPos ER (sendCell c w h hh) 0 ∅ 0 ∗ atPos ER (recvCell c w h hh) 0 ∅ 0
    ∗ dutyTok ER (sendCell c w h hh) 0 () ∗ dutyTok ER (recvCell (nxt c) w h hh) 0 ()
    ∗ cred (tallyAt (recvCell c w h hh) () N))

/-- The slot of the next device that hop `h` fills. -/
def ahead (c : Dev nD) (w : Bool) (h : ℕ) (hh : h < 7) : sProp 𝕄 := iprop(∃ f, slotPts w (nxt c) (h + 1) (by omega) f)

/-- Device `c`'s slot `j` holding its final contents. -/
def held (c : Dev nD) (w : Bool) (j : ℕ) (hj : j < 8) : sProp 𝕄 := slotPts w c j hj (full m w c)

/-- What hop `h` leaves on one buffer: both cells' counters at zero, and the slot sent. -/
def done (c : Dev nD) (w : Bool) (h : ℕ) (hh : h < 7) : sProp 𝕄 :=
  iprop(semVal (sendCell c w h hh) 0 ∗ semVal (recvCell c w h hh) 0 ∗ held m c w h (by omega))

/-- The copy of one slot to the next device. -/
theorem wp_copy_slot (K : Dev nD × CK → ℕ) (c n : Dev nD) (hn : n = nxt c) (w : Bool) (h : ℕ) (hh : h < 7)
    (O' O : CellTallies nD τ sig Unit) (hO : O' = O + tallyAt (recvCell (nxt c) w h hh) () N)
    {src dst : Memref sig .tc .vmem S2x8x512x64 .bf16} (hs : src = slotOf (scrM w) h (by omega)) (hd : dst = slotOf (scrM w) (h + 1) (by omega))
    {sS sR : SemLoc sig} (hsS : sS = csem (some (false, w, ⟨h, hh⟩))) (hsR : sR = csem (some (true, w, ⟨h, hh⟩)))
    {hsc : (dst : Memref sig (Dev.tc n : Thread nD τ).2.kind .vmem S2x8x512x64 .bf16).view.ref.isScScratch = false}
    {hsrc : src.view.WordExact} {hdst : dst.view.WordExact}
    {hsem : DmaTarget.Typed .vmem sR (.remote (Dev.tc n : Thread nD τ) dst sS hsc)}
    {α : Type} {Q : α → sProp 𝕄} {k : PUnit → Prog (TpuEff nD τ sig (Elt F) Λ₀ .tc) α} :
    iprop(records m K ∗ held m c w h (by omega) ∗ ahead c w h hh ∗ owesS c O'
        ∗ dutyTok ER (sendCell c w h hh) 0 () ∗ dutyTok ER (recvCell (nxt c) w h hh) 0 ())
      ⊢ iprop(((cred (tallyAt (sendCell c w h hh) () N) ∗ owesS c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst sS hsc) sR hsrc hdst hsem) k) Q) := by
  subst hn hs hd hsS hsR
  have h7 : h < 8 := by omega
  have h8 : h + 1 < 8 := by omega
  unfold owesS ahead held
  iintro ⟨#HR, Hs, ⟨%f, Ha⟩, ⟨%W, HO⟩, HtS, HtR⟩ Hk
  ihave #HI1 := (records_inv m K (c, some (false, w, ⟨h, hh⟩))) $$ HR
  ihave #HI2 := (records_inv m K (nxt c, some (true, w, ⟨h, hh⟩))) $$ HR
  ihave #HR1 := (records_reached m K (c, some (false, w, ⟨h, hh⟩))) $$ HR
  ihave #HR2 := (records_reached m K (nxt c, some (true, w, ⟨h, hh⟩))) $$ HR
  unfold slotPts
  iapply (Rounds.wp_send_pointsTo 𝒱₀ ER (ringRd m) (c : Thread nD τ) none (κ₁ := K (c, some (false, w, ⟨h, hh⟩))) (κ₂ := K (nxt c, some (true, w, ⟨h, hh⟩)))
    (r₁ := 0) (r₂ := 0) (d₁ := ()) (d₂ := ()) (c' := (Dev.tc (nxt c) : Thread nD τ)) (src := slotOf (scrM w) h h7) (dst := slotOf (scrM w) (h + 1) h8) (fd := f)
    (mem_duties m _) (mem_duties m _) () () N (by cases w <;> rfl) (amount_dma m c _) (amount_dma m (nxt c) _) O hO (W := W)
    (by rw [payload_eq]; exact BI.Entails.refl _)
    (by rw [payload_eq, written_slot w (nxt c) (h + 1) (by omega) f (full m w (nxt c)) _ (read_hop m w c h hh)]; exact BI.Entails.refl _))
    $$ [Hs Ha HO HtS HtR]
  · isplitr; · iexact HI1
    isplitr; · iexact HI2
    isplitl [Hs]; · iexact Hs
    isplitl [Ha]; · iexact Ha
    isplitl [HO]; · iexact HO
    isplitl [HtS]; · iexact HtS
    isplitr; · iexact HR1
    isplitl [HtR]; · iexact HtR
    iexact HR2
  iintro ⟨Hc, HO⟩
  iapply Hk
  isplitl [Hc]; · iexact Hc
  iexists W; iexact HO

/-- The wait that ends a cell's round: its counter is at zero for good, and its payload comes. -/
theorem wp_wait_cell (K : Dev nD × CK → ℕ) (c : Dev nD) (q : Bool × Bool × Fin 7) (k' : ℕ) (hk : k' ≤ 14) (l : ℕ)
    (hl : lv (kcell (c, some q)) () = l) (hlt : l < 2 + (14 - k') / 2)
    {s : DmaSem sig} (hs : SemLoc.dma s = csem (some q)) {src dst : Memref sig .tc .vmem S2x8x512x64 .bf16}
    (hdst : dst.view.dmaCredit = N)
    {h1 : src.view.WordExact} {h2 : dst.view.WordExact}
    {α : Type} {Q : α → sProp 𝕄} {k : PUnit → Prog (TpuEff nD τ sig (Elt F) Λ₀ .tc) α} :
    iprop(records m K ∗ levAts L lv ∗ cred (tallyAt (kcell (c, some q)) () N) ∗ owesS c (owed c k') ∗ atPos ER (kcell (c, some q)) 0 ∅ 0)
      ⊢ iprop(((owesS c (owed c k') ∗ semVal (kcell (c, some q)) 0 ∗ payOf m c (some q)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst h1 h2) k) Q) := by
  unfold owesS
  iintro ⟨#HR, #Hlev, Hc, ⟨%W, HO⟩, Hat⟩ Hk
  ihave #HI := (records_inv m K (c, some q)) $$ HR
  iapply (Rounds.wp_wait_rest_token 𝒱₀ ER (ringRd m) (c : Thread nD τ) none (κ := K (c, some q)) (sm := csem (some q)) (k' := N)
      (fun P => by rw [wpE_waitDma2_eq 𝒱₀ (c : Thread nD τ) none Set.univ, hs, hdst]) (Set.mem_univ _) () (O := owed c k') (W := W) (R := 0) (m := 0) (T := ∅)
      (by rw [Nat.zero_add]; exact (expect_dma m c q).symm)) $$ [Hc HO Hat]
  · isplitr; · iexact HI
    isplitl [Hc]; · iexact Hc
    isplitl [HO]; · iexact HO
    isplitr; · iapply (mayWait_owed (F := F) c (csem (some q)) k' hk l hl hlt); iexact Hlev
    iexact Hat
  iintro ⟨HO, Hat, -, Hpay⟩
  ihave Hp := (Entails.of_eq (rest_eq m c (some q))) $$ Hpay
  imod (Rounds.cell_close ER (ringRd m) (Set.mem_univ (K (c, some q))) (fun h => h) (R := 0 + 1) (duties_later m (kcell (c, some q)))) $$ [Hat] with Hz
  · isplitr; · iexact HI
    iexact Hat
  iapply Hk
  isplitl [HO]; · iexists _; iexact HO
  isplitl [Hz]; · iexact Hz
  iexact Hp

/-- The even arrivals are those of the keys, -/
theorem arr_even (c : Dev nD) (h : ℕ) (hh : h < 7) : arr c (2 * h) = recvCell (nxt c) false h hh := by
  have e1 : (2 * h % 2 == 1) = false := by rw [Nat.mul_mod_right]; rfl
  have e2 : 2 * h / 2 % 7 = h := by omega
  have e : ((2 * h % 2 == 1 : Bool), (⟨2 * h / 2 % 7, Nat.mod_lt _ (by decide)⟩ : Fin 7)) = (false, ⟨h, hh⟩) :=
    Prod.ext e1 (Fin.ext e2)
  exact congrArg (fun q : Bool × Fin 7 => kcell (nxt c, some (true, q.1, q.2))) e

/-- the odd ones those of the values. -/
theorem arr_odd (c : Dev nD) (h : ℕ) (hh : h < 7) : arr c (2 * h + 1) = recvCell (nxt c) true h hh := by
  have e0 : (2 * h + 1) % 2 = 1 := by omega
  have e1 : ((2 * h + 1) % 2 == 1) = true := by rw [e0]; rfl
  have e2 : (2 * h + 1) / 2 % 7 = h := by omega
  have e : (((2 * h + 1) % 2 == 1 : Bool), (⟨(2 * h + 1) / 2 % 7, Nat.mod_lt _ (by decide)⟩ : Fin 7)) = (true, ⟨h, hh⟩) :=
    Prod.ext e1 (Fin.ext e2)
  exact congrArg (fun q : Bool × Fin 7 => kcell (nxt c, some (true, q.1, q.2))) e

/-- What is owed before a step's copy of the keys is its arrival and what is owed after it. -/
theorem owed_even (c : Dev nD) (h : ℕ) (hh : h < 7) :
    owed c (14 - 2 * h) = owed c (13 - 2 * h) + tallyAt (recvCell (nxt c) false h hh) () N := by
  rw [show 14 - 2 * h = (13 - 2 * h) + 1 by omega, owed, show 13 - (13 - 2 * h) = 2 * h by omega, arr_even c h hh]

/-- The same of the copy of the values. -/
theorem owed_odd (c : Dev nD) (h : ℕ) (hh : h < 7) :
    owed c (13 - 2 * h) = owed c (12 - 2 * h) + tallyAt (recvCell (nxt c) true h hh) () N := by
  rw [show 13 - 2 * h = (12 - 2 * h) + 1 by omega, owed, show 13 - (12 - 2 * h) = 2 * h + 1 by omega, arr_odd c h hh]

/-- The copy and the two waits of hop `h`, from slot `h` of both buffers held to slot `h + 1` held. -/
theorem hop (K : Dev nD × CK → ℕ) (c : Dev nD) (h : ℕ) (hh : h < 7) {n₁ n₂ : Dev nD} (hn₁ : n₁ = nxt c) (hn₂ : n₂ = nxt c)
    {s₁ d₁ s₂ d₂ x₁ y₁ x₂ y₂ x₃ y₃ x₄ y₄ : Memref sig .tc .vmem S2x8x512x64 .bf16}
    (hs₁ : s₁ = slotOf (scrM false) h (by omega)) (hd₁ : d₁ = slotOf (scrM false) (h + 1) (by omega))
    (hs₂ : s₂ = slotOf (scrM true) h (by omega)) (hd₂ : d₂ = slotOf (scrM true) (h + 1) (by omega))
    (hy₁ : y₁.view.dmaCredit = N) (hy₂ : y₂.view.dmaCredit = N) (hy₃ : y₃.view.dmaCredit = N) (hy₄ : y₄.view.dmaCredit = N)
    {a₁ b₁ a₂ b₂ : SemLoc sig} {w₁ w₂ w₃ w₄ : DmaSem sig}
    (ha₁ : a₁ = csem (some (false, false, ⟨h, hh⟩))) (hb₁ : b₁ = csem (some (true, false, ⟨h, hh⟩)))
    (ha₂ : a₂ = csem (some (false, true, ⟨h, hh⟩))) (hb₂ : b₂ = csem (some (true, true, ⟨h, hh⟩)))
    (hw₁ : SemLoc.dma w₁ = csem (some (false, false, ⟨h, hh⟩))) (hw₂ : SemLoc.dma w₂ = csem (some (true, false, ⟨h, hh⟩)))
    (hw₃ : SemLoc.dma w₃ = csem (some (false, true, ⟨h, hh⟩))) (hw₄ : SemLoc.dma w₄ = csem (some (true, true, ⟨h, hh⟩)))
    {hsc₁ : (d₁ : Memref sig (Dev.tc n₁ : Thread nD τ).2.kind .vmem S2x8x512x64 .bf16).view.ref.isScScratch = false}
    {e₁ : s₁.view.WordExact} {e₂ : d₁.view.WordExact} {t₁ : DmaTarget.Typed .vmem b₁ (.remote (Dev.tc n₁ : Thread nD τ) d₁ a₁ hsc₁)}
    {hsc₂ : (d₂ : Memref sig (Dev.tc n₂ : Thread nD τ).2.kind .vmem S2x8x512x64 .bf16).view.ref.isScScratch = false}
    {e₃ : s₂.view.WordExact} {e₄ : d₂.view.WordExact} {t₂ : DmaTarget.Typed .vmem b₂ (.remote (Dev.tc n₂ : Thread nD τ) d₂ a₂ hsc₂)}
    {f₁ : x₁.view.WordExact} {g₁ : y₁.view.WordExact} {f₂ : x₂.view.WordExact} {g₂ : y₂.view.WordExact}
    {f₃ : x₃.view.WordExact} {g₃ : y₃.view.WordExact} {f₄ : x₄.view.WordExact} {g₄ : y₄.view.WordExact}
    {α : Type} {Q : α → sProp 𝕄} {k : PUnit → Prog (TpuEff nD τ sig (Elt F) Λ₀ .tc) α} :
    iprop(records m K ∗ levAts L lv ∗ owesS c (owed c (14 - 2 * h)) ∗ held m c false h (by omega) ∗ held m c true h (by omega)
        ∗ (pend c false h hh ∗ ahead c false h hh) ∗ pend c true h hh ∗ ahead c true h hh)
      ⊢ iprop(((owesS c (owed c (12 - 2 * h)) ∗ held m c false (h + 1) (by omega) ∗ held m c true (h + 1) (by omega)
            ∗ done m c false h hh ∗ done m c true h hh) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma s₁ (.remote (Dev.tc n₁ : Thread nD τ) d₁ a₁ hsc₁) b₁ e₁ e₂ t₁) fun _ =>
                .op (.enqueueDma s₂ (.remote (Dev.tc n₂ : Thread nD τ) d₂ a₂ hsc₂) b₂ e₃ e₄ t₂) fun _ =>
                .op (.waitDma2 w₁ x₁ y₁ f₁ g₁) fun _ => .op (.waitDma2 w₂ x₂ y₂ f₂ g₂) fun _ =>
                .op (.waitDma2 w₃ x₃ y₃ f₃ g₃) fun _ => .op (.waitDma2 w₄ x₄ y₄ f₄ g₄) k) Q) := by
  unfold pend
  iintro ⟨#HR, #Hlev, HO, Hk, Hv, ⟨⟨HaK, HbK, HtK, HuK, HcK⟩, HnK⟩, ⟨HaV, HbV, HtV, HuV, HcV⟩, HnV⟩ Hgo
  iapply (wp_copy_slot m K c n₁ hn₁ false h hh (owed c (14 - 2 * h)) (owed c (13 - 2 * h)) (owed_even c h hh) hs₁ hd₁ ha₁ hb₁) $$ [Hk HnK HO HtK HuK]
  · isplitr; · iexact HR
    isplitl [Hk]; · iexact Hk
    isplitl [HnK]; · iexact HnK
    isplitl [HO]; · iexact HO
    isplitl [HtK]; · iexact HtK
    iexact HuK
  iintro ⟨HsK, HO⟩
  iapply (wp_copy_slot m K c n₂ hn₂ true h hh (owed c (13 - 2 * h)) (owed c (12 - 2 * h)) (owed_odd c h hh) hs₂ hd₂ ha₂ hb₂) $$ [Hv HnV HO HtV HuV]
  · isplitr; · iexact HR
    isplitl [Hv]; · iexact Hv
    isplitl [HnV]; · iexact HnV
    isplitl [HO]; · iexact HO
    isplitl [HtV]; · iexact HtV
    iexact HuV
  iintro ⟨HsV, HO⟩
  iapply (wp_wait_cell m K c (false, false, ⟨h, hh⟩) (12 - 2 * h) (by omega) 0 (lv_send c false h hh ()) (by omega) hw₁ hy₁) $$ [HsK HO HaK]
  · isplitr; · iexact HR
    isplitr; · iexact Hlev
    isplitl [HsK]; · iexact HsK
    isplitl [HO]; · iexact HO
    iexact HaK
  iintro ⟨HO, HzaK, HpK⟩
  iapply (wp_wait_cell m K c (true, false, ⟨h, hh⟩) (12 - 2 * h) (by omega) (2 + h) (lv_recv c false h hh ()) (by omega) hw₂ hy₂) $$ [HcK HO HbK]
  · isplitr; · iexact HR
    isplitr; · iexact Hlev
    isplitl [HcK]; · iexact HcK
    isplitl [HO]; · iexact HO
    iexact HbK
  iintro ⟨HO, HzbK, HqK⟩
  iapply (wp_wait_cell m K c (false, true, ⟨h, hh⟩) (12 - 2 * h) (by omega) 0 (lv_send c true h hh ()) (by omega) hw₃ hy₃) $$ [HsV HO HaV]
  · isplitr; · iexact HR
    isplitr; · iexact Hlev
    isplitl [HsV]; · iexact HsV
    isplitl [HO]; · iexact HO
    iexact HaV
  iintro ⟨HO, HzaV, HpV⟩
  iapply (wp_wait_cell m K c (true, true, ⟨h, hh⟩) (12 - 2 * h) (by omega) (2 + h) (lv_recv c true h hh ()) (by omega) hw₄ hy₄) $$ [HcV HO HbV]
  · isplitr; · iexact HR
    isplitr; · iexact Hlev
    isplitl [HcV]; · iexact HcV
    isplitl [HO]; · iexact HO
    iexact HbV
  iintro ⟨HO, HzbV, HqV⟩
  iapply Hgo
  unfold done held payOf
  isplitl [HO]; · iexact HO
  isplitl [HqK]; · iexact HqK
  isplitl [HqV]; · iexact HqV
  isplitl [HzaK HzbK HpK]
  · isplitl [HzaK]; · iexact HzaK
    isplitl [HzbK]; · iexact HzbK
    iexact HpK
  isplitl [HzaV]; · iexact HzaV
  isplitl [HzbV]; · iexact HzbV
  iexact HpV

end Cert.KernelIdeal.Heads

end
-- ==== Proof.Ring.Cuts.lean ====
/-
# The body in two stretches

The kernel's body first passes the blocks around the ring, then computes from what its buffers hold.
-/
module

public import proofs.«01_k».proof.Proof.Gen.KernelIdeal.Skeleton
public import Idealize.ShloMosaic.Lib.Tactic
public import Idealize.ShloMosaic.Lib.Tactic.Stretches

@[expose] public section

noncomputable section

namespace Cert.KernelIdeal.Heads

open Cert.KernelIdeal Cert.KernelIdeal.Gen

open Idealize.ShloMosaic Idealize.ShloMosaic.TcCoe

cut_chain st := k0_part56_skel at 19

end Cert.KernelIdeal.Heads

end
-- ==== Proof.Ring.Run.lean ====
/-
# The ring run

From the handshake to the last wait: every device ends with both ring buffers filled by all eight blocks and with
every counter of the ring at zero.
-/
module

public import proofs.«01_k».proof.Proof.Ring.Hop
public import proofs.«01_k».proof.Proof.Ring.Cuts
public import Idealize.ShloMosaic.Lib.Ring
public import Idealize.ShloMosaic.Lib.Pointwise

@[expose] public section

noncomputable section

namespace Cert.KernelIdeal.Heads

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## A ring buffer and its slots -/

/-- A slot's elements are those of its rectangle, -/
theorem slot_set (w : Bool) (j : ℕ) (hj : j < 8) : (slotOf (scrM w) j hj).view.set = ((scrM w).access (slotR j hj)).set :=
  View.set_reshape _ _

/-- whichever scratch it is in. -/
theorem access_set (w : Bool) (j : ℕ) (hj : j < 8) : ((scrM w).access (slotR j hj)).set = match w with
    | false => ((slotR j hj).set : Finset (Shape.Idx S8x2x8x512x64)) | true => (slotR j hj).set := by
  cases w
  · exact View.set_slice_whole _ _
  · exact View.set_slice_whole _ _

/-- Two slots share no element. -/
theorem slots_disjoint (j j' : Fin 8) (h : j ≠ j') : Disjoint (slotR j.val j.isLt).set (slotR j'.val j'.isLt).set :=
  Ring.lead_disjoint (s := S8x2x8x512x64) (NB := 8) 0 1 (fun j => ![j.val, 0, 0, 0, 0]) S1x2x8x512x64.size (fun j => inb8 j.val j.isLt)
    (fun b => by show b.val = 1 * b.val; omega) rfl j j' h

/-- The slots together are the scratch. -/
theorem slots_cover : Finset.univ.biUnion (fun j : Fin 8 => (slotR j.val j.isLt).set) = Finset.univ :=
  Ring.lead_cover (s := S8x2x8x512x64) (NB := 8) 0 1 (fun j => ![j.val, 0, 0, 0, 0]) S1x2x8x512x64.size (fun j => inb8 j.val j.isLt)
    (fun b => by show b.val = 1 * b.val; omega)
    (fun b a ha => by
      match a, ha with
      | ⟨0, _⟩, ha => exact absurd rfl ha
      | ⟨1, _⟩, _ => rfl
      | ⟨2, _⟩, _ => rfl
      | ⟨3, _⟩, _ => rfl
      | ⟨4, _⟩, _ => rfl) rfl
    (fun a ha => by
      match a, ha with
      | ⟨0, _⟩, ha => exact absurd rfl ha
      | ⟨1, _⟩, _ => rfl
      | ⟨2, _⟩, _ => rfl
      | ⟨3, _⟩, _ => rfl
      | ⟨4, _⟩, _ => rfl) rfl

/-- The elements of slot `j`. -/
abbrev slotSet (j : Fin 8) : Finset S8x2x8x512x64.Idx := (slotR j.val j.isLt).set

/-- Owning a slot of the keys is owning its elements. -/
theorem slotPts_keys (c : Dev nD) (j : Fin 8) (f) :
    slotPts (F := F) false c j.val j.isLt f = ((scrM false).view.loc (c : Thread nD τ) ↦[slotSet j]{fullShare} f) := by
  unfold slotPts; rw [slot_set, access_set]

/-- Owning a slot of the values is owning its elements. -/
theorem slotPts_values (c : Dev nD) (j : Fin 8) (f) :
    slotPts (F := F) true c j.val j.isLt f = ((scrM true).view.loc (c : Thread nD τ) ↦[slotSet j]{fullShare} f) := by
  unfold slotPts; rw [slot_set, access_set]

/-- A ring buffer held whole is its eight slots held. -/
theorem slots_split (w : Bool) (c : Dev nD) (f : Buf (Elt F) ((scrM w).view.loc (c : Thread nD τ))) :
    ((scrM w).view.loc (c : Thread nD τ) ↦{fullShare} f : sProp 𝕄) = bigSep Finset.univ fun j : Fin 8 => slotPts w c j.val j.isLt f := by
  cases w
  · rw [bigSep_congr fun j _ => slotPts_keys c j f]
    exact Ring.pointsTo_blocks (Ix := Unit) (Name := ℕ) (U := UU) (Lvl := ℕ) (q := fullShare) (ℓ := (c : Thread nD τ).loc cc0_scratch0) slotSet slots_disjoint slots_cover f
  · rw [bigSep_congr fun j _ => slotPts_values c j f]
    exact Ring.pointsTo_blocks (Ix := Unit) (Name := ℕ) (U := UU) (Lvl := ℕ) (q := fullShare) (ℓ := (c : Thread nD τ).loc cc0_scratch1) slotSet slots_disjoint slots_cover f

/-- A conjunction over seven, written out. -/
theorem seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [(0 : Fin 7), (1 : Fin 7), (2 : Fin 7), (3 : Fin 7), (4 : Fin 7), (5 : Fin 7), (6 : Fin 7)] (by decide) (by decide) Φ

/-- A conjunction over eight, written out. -/
theorem eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), (1 : Fin 8), (2 : Fin 8), (3 : Fin 8), (4 : Fin 8), (5 : Fin 8), (6 : Fin 8), (7 : Fin 8)] (by decide) (by decide) Φ

/-- The same with slot 0 apart. -/
theorem slots_first (Φ : Fin 8 → sProp 𝕄) : bigSep Finset.univ Φ = iprop(Φ 0 ∗ bigSep Finset.univ fun h : Fin 7 => Φ h.succ) := by
  rw [eight, seven]; rfl

/-! ## The device's own block, stored heads before positions -/

/-- An element of the block in head-major order. -/
theorem pay4_apply (v : Vec F S2x512x8x64 .bf16) (i : S1x2x8x512x64.Idx) :
    k0_pay4 v i = v (ix4 (n0 := 2) (n1 := 512) (n2 := 8) (n3 := 64) (i 1) (i 3) (i 2) (i 4)) := by
  unfold k0_pay4; pointwise

/-- Storing the device's own block fills slot 0. -/
theorem stored_first (w : Bool) (c : Dev nD) (f : Buf (Elt F) ((scrM w).view.loc (c : Thread nD τ))) :
    (((scrM w).access (slotR 0 (by decide))).loc (c : Thread nD τ) ↦[((scrM w).access (slotR 0 (by decide))).set]{fullShare}
        ((scrM w).access (slotR 0 (by decide))).write (Elt F) f (k0_pay4 (blk m w c)) Finset.univ : sProp 𝕄) = held m c w 0 (by decide) := by
  unfold held slotPts
  rw [slot_set]
  refine pointsTo_congr fun i hi => ?_
  obtain ⟨x, -, rfl⟩ := Finset.mem_map.mp hi
  rw [View.write_emb_of_mem _ _ (Finset.mem_univ _)]
  have e : (slotR 0 (by decide)).emb x = ix5 (n0 := 8) (n1 := 2) (n2 := 8) (n3 := 512) (n4 := 64) ⟨0, by decide⟩ (x 1) (x 2) (x 3) (x 4) := by
    funext a
    apply Fin.ext
    match a with
    | ⟨0, _⟩ => exact (by have h0 : (x 0).val < 1 := (x 0).isLt
                          show 0 + 1 * (x 0).val = 0; omega)
    | ⟨1, _⟩ => exact (by show 0 + 1 * (x 1).val = (x 1).val; omega)
    | ⟨2, _⟩ => exact (by show 0 + 1 * (x 2).val = (x 2).val; omega)
    | ⟨3, _⟩ => exact (by show 0 + 1 * (x 3).val = (x 3).val; omega)
    | ⟨4, _⟩ => exact (by show 0 + 1 * (x 4).val = (x 4).val; omega)
  cases w
  · show k0_pay4 (blk m false c) x = gathered m false c ((slotR 0 (by decide)).emb x)
    rw [pay4_apply, e]
    show _ = blk m false (back c 0) _
    rw [back_zero]; rfl
  · show k0_pay4 (blk m true c) x = gathered m true c ((slotR 0 (by decide)).emb x)
    rw [pay4_apply, e]
    show _ = blk m true (back c 0) _
    rw [back_zero]; rfl

/-! ## The run -/

/-- A step's two slots, whatever they hold, may be given away. -/
theorem slot_give (c : Dev nD) (h : Fin 7) (f : Buf (Elt F) ((scrM false).view.loc (c : Thread nD τ))) (g : Buf (Elt F) ((scrM true).view.loc (c : Thread nD τ))) :
    iprop(slotPts false c (h.val + 1) (Nat.succ_lt_succ h.isLt) f ∗ slotPts true c (h.val + 1) (Nat.succ_lt_succ h.isLt) g)
      ⊢ iprop((∃ f, slotPts (F := F) false c (h.val + 1) (Nat.succ_lt_succ h.isLt) f) ∗ ∃ f, slotPts (F := F) true c (h.val + 1) (Nat.succ_lt_succ h.isLt) f) := by
  iintro ⟨Hf, Hg⟩
  isplitl [Hf]
  · iexists f; iexact Hf
  · iexists g; iexact Hg

/-- The slots after the first, whatever they hold, are what the handshake hands to the device before. -/
theorem slots_give (c : Dev nD) (f : Buf (Elt F) ((scrM false).view.loc (c : Thread nD τ))) (g : Buf (Elt F) ((scrM true).view.loc (c : Thread nD τ))) :
    iprop((bigSep Finset.univ fun h : Fin 7 => slotPts false c (h.val + 1) (Nat.succ_lt_succ h.isLt) f)
        ∗ bigSep Finset.univ fun h : Fin 7 => slotPts true c (h.val + 1) (Nat.succ_lt_succ h.isLt) g)
      ⊢ barPay (F := F) (prv c) := by
  unfold barPay
  rw [nxt_prv, ← bigSep_sep']
  exact bigSep_mono fun h _ => slot_give c h f g

/-- The stage of the keys, and that of the values. -/
abbrev kM : Memref sig .tc .vmem S2x512x8x64 .bf16 := Memref.whole cc0_stg3_0
abbrev vM : Memref sig .tc .vmem S2x512x8x64 .bf16 := Memref.whole cc0_stg4_0

/-- There is a first slot. -/
theorem h08 : 0 < 8 := by decide

/-- The zero corner. -/
theorem hz4 : (![0, 0, 0, 0] : Fin 4 → ℕ) = 0 := by decide

/-- Reading the whole stage of the keys gives its contents. -/
theorem read_keys (inb) (f : (cc0_stg3_0 : Ref sig .tc).ty.Contents (Elt F)) :
    kM.view.readAt (Elt F) (Rect.unit (s := S2x512x8x64) ![0, 0, 0, 0] S2x512x8x64.size inb).toLoadRect f = f :=
  Memref.readAt_unit_zero (Elt F) cc0_stg3_0 hz4 _ f

/-- Reading the whole stage of the values gives its contents. -/
theorem read_values (inb) (f : (cc0_stg4_0 : Ref sig .tc).ty.Contents (Elt F)) :
    vM.view.readAt (Elt F) (Rect.unit (s := S2x512x8x64) ![0, 0, 0, 0] S2x512x8x64.size inb).toLoadRect f = f :=
  Memref.readAt_unit_zero (Elt F) cc0_stg4_0 hz4 _ f

/-- The keys and the values are put in head-major order alike. -/
theorem pay3_pay2 (v : Vec F S2x512x8x64 .bf16) : k0_pay3 (k0_pay2 v) = k0_pay4 v := rfl

/-- Owning a slot is owning the elements that an access to it touches. -/
theorem slotPts_access (w : Bool) (c : Dev nD) (j : ℕ) (hj : j < 8) (f) :
    slotPts (F := F) w c j hj f = (((scrM w).access (slotR j hj)).loc (c : Thread nD τ) ↦[((scrM w).access (slotR j hj)).set]{fullShare} f) := by
  unfold slotPts; rw [slot_set]

/-- Every slot's copy pays the same credit. -/
theorem credit (w : Bool) (j : ℕ) (hj : j < 8) : (slotOf (scrM w) j hj).view.dmaCredit = N := by cases w <;> rfl

/-- What a device holds before hop `j`, and after the last. -/
def atHop (c : Dev nD) (j : ℕ) (hj : j < 8) : sProp 𝕄 := iprop(owesS c (owed c (14 - 2 * j)) ∗ held m c false j hj ∗ held m c true j hj)

/-- A hop's contributions and the slots it fills, and what it leaves, on both buffers. -/
def pends (c : Dev nD) (h : Fin 7) : sProp 𝕄 := iprop(pend c false h.val h.isLt ∗ pend c true h.val h.isLt)
/-- The steps that are ahead, those that are done, and the cells at zero. -/
def aheads (c : Dev nD) (h : Fin 7) : sProp 𝕄 := iprop(ahead c false h.val h.isLt ∗ ahead c true h.val h.isLt)
def dones (c : Dev nD) (h : Fin 7) : sProp 𝕄 := iprop(done m c false h.val h.isLt ∗ done m c true h.val h.isLt)
def zero (c : Dev nD) (h : Fin 7) : sProp 𝕄 :=
  iprop((semVal (sendCell c false h.val h.isLt) 0 ∗ semVal (recvCell c false h.val h.isLt) 0)
      ∗ semVal (sendCell c true h.val h.isLt) 0 ∗ semVal (recvCell c true h.val h.isLt) 0)

/-- One hop, its resources in the order in which the run holds them. -/
theorem hop_pack (K : Dev nD × CK → ℕ) (c : Dev nD) (h : ℕ) (hh : h < 7) :
    iprop(records m K ∗ levAts L lv ∗ atHop m c h (by omega) ∗ pends c ⟨h, hh⟩ ∗ aheads c ⟨h, hh⟩)
      ⊢ iprop(records m K ∗ levAts L lv ∗ owesS c (owed c (14 - 2 * h)) ∗ held m c false h (by omega) ∗ held m c true h (by omega)
        ∗ (pend c false h hh ∗ ahead c false h hh) ∗ pend c true h hh ∗ ahead c true h hh) := by
  unfold atHop pends aheads
  iintro ⟨#HR, #Hlev, ⟨HO, Hk, Hv⟩, ⟨Hpk, Hpv⟩, Hak, Hav⟩
  isplitr; · iexact HR
  isplitr; · iexact Hlev
  isplitl [HO]; · iexact HO
  isplitl [Hk]; · iexact Hk
  isplitl [Hv]; · iexact Hv
  isplitl [Hpk Hak]
  · isplitl [Hpk]; · iexact Hpk
    iexact Hak
  isplitl [Hpv]; · iexact Hpv
  iexact Hav

/-- After a step the loop is at the next. -/
theorem at_next (c : Dev nD) (h : ℕ) (hh : h < 7) :
    iprop(owesS c (owed c (12 - 2 * h)) ∗ held m c false (h + 1) (by omega) ∗ held m c true (h + 1) (by omega)) ⊢ atHop m c (h + 1) (by omega) := by
  unfold atHop
  rw [show 14 - 2 * (h + 1) = 12 - 2 * h by omega]

/-- What a step that is done leaves behind, piece by piece. -/
theorem done_split (c : Dev nD) (h : Fin 7) :
    dones m c h ⊢ iprop(zero c h ∗ held m c false h.val (by omega) ∗ held m c true h.val (by omega)) := by
  unfold dones done zero
  iintro ⟨⟨Ha, Hb, Hk⟩, Hc, Hd, Hv⟩
  isplitl [Ha Hb Hc Hd]
  · isplitl [Ha Hb]
    · isplitl [Ha]; · iexact Ha
      iexact Hb
    isplitl [Hc]; · iexact Hc
    iexact Hd
  isplitl [Hk]; · iexact Hk
  iexact Hv

/-- Seven slots and the eighth are the buffer. -/
theorem slots_join (w : Bool) (c : Dev nD) :
    iprop((bigSep Finset.univ fun h : Fin 7 => held m c w h.val (Nat.lt_succ_of_lt h.isLt)) ∗ held m c w 7 (by decide))
      ⊢ ((scrM w).view.loc (c : Thread nD τ) ↦{fullShare} full m w c : sProp 𝕄) := by
  rw [slots_split w c (full m w c), eight, seven]
  unfold held
  iintro ⟨⟨H0, H1, H2, H3, H4, H5, H6⟩, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- After the last hop: the counters at zero and both buffers whole. -/
theorem hops_end (c : Dev nD) :
    iprop((bigSep Finset.univ fun h : Fin 7 => dones m c h) ∗ atHop m c 7 (by decide))
      ⊢ iprop(owesS c 0 ∗ (bigSep Finset.univ fun h : Fin 7 => zero c h) ∗ ((scrM false).view.loc (c : Thread nD τ) ↦{fullShare} full m false c)
          ∗ ((scrM true).view.loc (c : Thread nD τ) ↦{fullShare} full m true c)) := by
  have e : (bigSep Finset.univ fun h : Fin 7 => dones m c h) ⊢ iprop((bigSep Finset.univ fun h : Fin 7 => zero c h)
      ∗ (bigSep Finset.univ fun h : Fin 7 => held m c false h.val (Nat.lt_succ_of_lt h.isLt))
      ∗ bigSep Finset.univ fun h : Fin 7 => held m c true h.val (Nat.lt_succ_of_lt h.isLt)) := by
    rw [← bigSep_sep', ← bigSep_sep']
    exact bigSep_mono fun h _ => done_split m c h
  unfold atHop
  iintro ⟨Hd, HO, Hk, Hv⟩
  ihave Hd := e $$ Hd
  icases Hd with ⟨Hz, Hks, Hvs⟩
  isplitl [HO]; · iexact HO
  isplitl [Hz]; · iexact Hz
  isplitl [Hks Hk]
  · iapply (slots_join m false c)
    isplitl [Hks]; · iexact Hks
    iexact Hk
  iapply (slots_join m true c)
  isplitl [Hvs]; · iexact Hvs
  iexact Hv

/-- What device `c` brings to the ring. -/
def ringPre (K : Dev nD × CK → ℕ) (c : Dev nD) : sProp 𝕄 :=
  iprop(records m K ∗ levAts L lv ∗ owesS c (O₀ c) ∗ atPos ER (barCell c) 0 ∅ 0 ∗ dutyTok ER (barCell (prv c)) 0 ()
    ∗ cred (tallyAt (barCell c) () 1)
    ∗ (bigSep Finset.univ fun h : Fin 7 => pends c h)
    ∗ (∃ f, (scrM false).view.loc (c : Thread nD τ) ↦{fullShare} f) ∗ ∃ f, (scrM true).view.loc (c : Thread nD τ) ↦{fullShare} f)

/-- Every counter of the ring on device `c` at zero. -/
def zeros (c : Dev nD) : sProp 𝕄 :=
  iprop(semVal (barCell c) 0 ∗ bigSep Finset.univ fun h : Fin 7 => zero c h)

set_option maxHeartbeats 4000000 in
set_option maxRecDepth 65536 in
/-- The whole ring: from the handshake to both buffers filled. -/
theorem ring_run (K : Dev nD × CK → ℕ) (c : Dev nD) {arg0 : Memref sig .tc .vmem S2x512x768 .bf16} {harg0 : arg0.IsWhole}
    {arg1 : Memref sig .tc .vmem S768x512 .bf16} {harg1 : arg1.IsWhole} {arg2 : Memref sig .tc .vmem S512x768 .bf16} {harg2 : arg2.IsWhole}
    {h3 : kM.IsWhole} {h4 : vM.IsWhole} {arg5 : Memref sig .tc .vmem S2x512x768 .f32} {harg5 : arg5.IsWhole} {h6 : (scrM false).IsWhole} {h7 : (scrM true).IsWhole}
    {α : Type} {Q : α → sProp 𝕄} {κ : BitVec 32 → IVec S512x128 32 → IVec S512x128 1 → Prog (TpuEff nD τ sig (Elt F) Λ₀ .tc) α} :
    iprop(ringPre m K c ∗ (kM.view.loc (c : Thread nD τ) ↦{fullShare} blk m false c) ∗ (vM.view.loc (c : Thread nD τ) ↦{fullShare} blk m true c))
      ⊢ iprop(((owesS c 0 ∗ zeros c ∗ ((scrM false).view.loc (c : Thread nD τ) ↦{fullShare} full m false c) ∗ ((scrM true).view.loc (c : Thread nD τ) ↦{fullShare} full m true c)
            ∗ (kM.view.loc (c : Thread nD τ) ↦{fullShare} blk m false c) ∗ (vM.view.loc (c : Thread nD τ) ↦{fullShare} blk m true c))
          -∗ wp frame (wpE (defs₀ (F := F)) 𝒱₀ (c : Thread nD τ) none) Set.univ (κ (Scalar.select (Scalar.cmpi .eq 4#32 0#32) 1#32 4#32) k0_pay5 k0_pay6) Q)
        -∗ wp frame (wpE (defs₀ (F := F)) 𝒱₀ (c : Thread nD τ) none) Set.univ
            (st1 arg0 harg0 arg1 harg1 arg2 harg2 kM h3 vM h4 arg5 harg5 (scrM false) h6 (scrM true) h7 cc0_scratch2 cc0_scratch3 cc0_scratch4 cc0_scratch5 κ) Q) := by
  unfold st1
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton, k0_part18_eq_skeleton]
  unfold k0_part1_skel k0_part2_skel k0_part3_skel k0_part4_skel k0_part5_skel k0_part6_skel k0_part7_skel k0_part8_skel k0_part9_skel
    k0_part10_skel k0_part11_skel k0_part12_skel k0_part13_skel k0_part14_skel k0_part15_skel k0_part16_skel k0_part17_skel k0_part18_skel
  simp only [semSignalWord, semWaitWord, Prog.lift, Prog.bind_op, Prog.bind_ret, Prog.pure_eq_ret, wp_deviceId]
  unfold ringPre owesS
  iintro ⟨⟨#HR, #Hlev, ⟨%W, HO⟩, Hat, Htok, Hcr, Hp, ⟨%f0, HK⟩, ⟨%f1, HV⟩⟩, Hk, Hv⟩ Hgo
  ihave HK := (Entails.of_eq ((slots_split false c f0).trans (slots_first _))) $$ HK
  ihave HV := (Entails.of_eq ((slots_split true c f1).trans (slots_first _))) $$ HV
  icases HK with ⟨HK0, HK⟩
  icases HV with ⟨HV0, HV⟩
  ihave #HIb := (records_inv m K (c, none)) $$ HR
  ihave #HIp := (records_inv m K (prv c, none)) $$ HR
  ihave #HRp := (records_reached m K (prv c, none)) $$ HR
  -- the signal to the device before, handing it the slots that it fills
  simp only [dev1_eq c]
  iapply (Rounds.wp_signal 𝒱₀ ER (ringRd m) (c : Thread nD τ) none (dst := (prv c : Thread nD τ)) (κ := K (prv c, none)) (d := ())
      (mem_duties m _) ((amount_bar m (prv c)).trans (by decide)) () (owed c 14) rfl) $$ [HO Htok HK HV]
  · isplitr; · iexact HIp
    isplitl [HO]; · iexact HO
    isplitl [Htok]; · iexact Htok
    isplitl [HK HV]
    · rw [show (ringRd m).payload ((prv c : Thread nD τ), SemLoc.reg barS) 0 () = barPay (prv c) from payload_eq m (prv c) none]
      iapply (slots_give c f0 f1)
      isplitl [HK]; · iexact HK
      iexact HV
    iexact HRp
  iintro HO
  -- the wait for the next device's signal
  iapply (Rounds.wp_wait_rest_token 𝒱₀ ER (ringRd m) (c : Thread nD τ) none (κ := K (c, none))
      (wpE_semWait_eq 𝒱₀ (c : Thread nD τ) none Set.univ) (Set.mem_univ _) () (O := owed c 14) (W := W) (R := 0) (m := 0) (T := ∅)
      (by rw [expect_bar]; decide)) $$ [Hcr HO Hat]
  · isplitr; · iexact HIb
    isplitl [Hcr]; · iexact Hcr
    isplitl [HO]; · iexact HO
    isplitr; · iapply (mayWait_owed (F := F) c (csem none) 14 le_rfl 1 (lv_bar c ()) (by decide)); iexact Hlev
    iexact Hat
  iintro ⟨HO, Hat, -, Hpay⟩
  ihave Hnext := (Entails.of_eq (rest_eq m c none)) $$ Hpay
  imod (Rounds.cell_close ER (ringRd m) (Set.mem_univ (K (c, none))) (fun h => h) (R := 0 + 1) (duties_later m (barCell c))) $$ [Hat] with Hzb
  · isplitr; · iexact HIb
    iexact Hat
  -- the device's own block into slot 0 of both buffers
  iapply (wp_load 𝒱₀ (c : Thread nD τ) none Set.univ (m := kM) (Finset.subset_univ _)) $$ Hk; iintro Hk
  rw [read_keys]
  ihave HK0 := (show slotPts false c (0 : Fin 8).val (0 : Fin 8).isLt f0 ⊢ _ from Entails.of_eq (slotPts_access false c 0 (by decide) f0)) $$ HK0
  ihave HV0 := (show slotPts true c (0 : Fin 8).val (0 : Fin 8).isLt f1 ⊢ _ from Entails.of_eq (slotPts_access true c 0 (by decide) f1)) $$ HV0
  iapply (wp_load_rect 𝒱₀ (c : Thread nD τ) none Set.univ (m := scrM false) (r := slotR 0 h08) (S := ((scrM false).access (slotR 0 h08)).set) (Finset.Subset.refl _)) $$ HK0; iintro HK0
  iapply (wp_store 𝒱₀ (c : Thread nD τ) none Set.univ (m := scrM false) (r := slotR 0 h08) (Mk := Finset.univ) (S := ((scrM false).access (slotR 0 h08)).set) (Finset.Subset.refl _)) $$ HK0; iintro HK0
  rw [pay3_pay2]
  ihave HsK := (Entails.of_eq (stored_first m false c f0)) $$ HK0
  iapply (wp_load 𝒱₀ (c : Thread nD τ) none Set.univ (m := vM) (Finset.subset_univ _)) $$ Hv; iintro Hv
  rw [read_values]
  iapply (wp_load_rect 𝒱₀ (c : Thread nD τ) none Set.univ (m := scrM true) (r := slotR 0 h08) (S := ((scrM true).access (slotR 0 h08)).set) (Finset.Subset.refl _)) $$ HV0; iintro HV0
  iapply (wp_store 𝒱₀ (c : Thread nD τ) none Set.univ (m := scrM true) (r := slotR 0 h08) (Mk := Finset.univ) (S := ((scrM true).access (slotR 0 h08)).set) (Finset.Subset.refl _)) $$ HV0; iintro HV0
  ihave HsV := (Entails.of_eq (stored_first m true c f1)) $$ HV0
  -- the hops
  ihave HS := (show iprop((∃ W, owes (c : Thread nD τ) (owed c 14) W) ∗ held m c false 0 (by decide) ∗ held m c true 0 (by decide)) ⊢ atHop m c 0 (by decide)
    from BI.Entails.refl _) $$ [HO HsK HsV]
  · isplitl [HO]; · iexists _; iexact HO
    isplitl [HsK]; · iexact HsK
    iexact HsV
  ihave Hn := (show payOf m c none ⊢ (bigSep Finset.univ fun h : Fin 7 => aheads c h) from BI.Entails.refl _) $$ Hnext
  ihave Hp := (Entails.of_eq (seven _)) $$ Hp
  ihave Hn := (Entails.of_eq (seven _)) $$ Hn
  icases Hp with ⟨Hp0, Hp1, Hp2, Hp3, Hp4, Hp5, Hp6⟩
  icases Hn with ⟨Hn0, Hn1, Hn2, Hn3, Hn4, Hn5, Hn6⟩
  iapply (hop m K c 0 (by decide) (dev2_eq c) (dev3_eq c) rfl rfl rfl rfl (credit false 0 (by decide)) (credit false 1 (by decide))
    (credit true 0 (by decide)) (credit true 1 (by decide))
    rfl rfl rfl rfl rfl rfl rfl rfl) $$ [HS Hp0 Hn0]
  · iapply (hop_pack m K c 0 _)
    isplitr; · iexact HR
    isplitr; · iexact Hlev
    isplitl [HS]; · iexact HS
    isplitl [Hp0]; · iexact Hp0
    iexact Hn0
  iintro ⟨HO, HsK, HsV, HdK, HdV⟩
  ihave HS := (at_next m c 0 (by decide)) $$ [HO HsK HsV]
  · isplitl [HO]; · iexact HO
    isplitl [HsK]; · iexact HsK
    iexact HsV
  ihave Hd0 := (show iprop(done m c false 0 (by decide) ∗ done m c true 0 (by decide)) ⊢ dones m c 0 from BI.Entails.refl _) $$ [HdK HdV]
  · isplitl [HdK]; · iexact HdK
    iexact HdV
  iapply (hop m K c 1 (by decide) (dev4_eq c) (dev5_eq c) rfl rfl rfl rfl (credit false 1 (by decide)) (credit false 2 (by decide))
    (credit true 1 (by decide)) (credit true 2 (by decide))
    rfl rfl rfl rfl rfl rfl rfl rfl) $$ [HS Hp1 Hn1]
  · iapply (hop_pack m K c 1 _)
    isplitr; · iexact HR
    isplitr; · iexact Hlev
    isplitl [HS]; · iexact HS
    isplitl [Hp1]; · iexact Hp1
    iexact Hn1
  iintro ⟨HO, HsK, HsV, HdK, HdV⟩
  ihave HS := (at_next m c 1 (by decide)) $$ [HO HsK HsV]
  · isplitl [HO]; · iexact HO
    isplitl [HsK]; · iexact HsK
    iexact HsV
  ihave Hd1 := (show iprop(done m c false 1 (by decide) ∗ done m c true 1 (by decide)) ⊢ dones m c 1 from BI.Entails.refl _) $$ [HdK HdV]
  · isplitl [HdK]; · iexact HdK
    iexact HdV
  iapply (hop m K c 2 (by decide) (dev6_eq c) (dev7_eq c) rfl rfl rfl rfl (credit false 2 (by decide)) (credit false 3 (by decide))
    (credit true 2 (by decide)) (credit true 3 (by decide))
    rfl rfl rfl rfl rfl rfl rfl rfl) $$ [HS Hp2 Hn2]
  · iapply (hop_pack m K c 2 _)
    isplitr; · iexact HR
    isplitr; · iexact Hlev
    isplitl [HS]; · iexact HS
    isplitl [Hp2]; · iexact Hp2
    iexact Hn2
  iintro ⟨HO, HsK, HsV, HdK, HdV⟩
  ihave HS := (at_next m c 2 (by decide)) $$ [HO HsK HsV]
  · isplitl [HO]; · iexact HO
    isplitl [HsK]; · iexact HsK
    iexact HsV
  ihave Hd2 := (show iprop(done m c false 2 (by decide) ∗ done m c true 2 (by decide)) ⊢ dones m c 2 from BI.Entails.refl _) $$ [HdK HdV]
  · isplitl [HdK]; · iexact HdK
    iexact HdV
  iapply (hop m K c 3 (by decide) (dev8_eq c) (dev9_eq c) rfl rfl rfl rfl (credit false 3 (by decide)) (credit false 4 (by decide))
    (credit true 3 (by decide)) (credit true 4 (by decide))
    rfl rfl rfl rfl rfl rfl rfl rfl) $$ [HS Hp3 Hn3]
  · iapply (hop_pack m K c 3 _)
    isplitr; · iexact HR
    isplitr; · iexact Hlev
    isplitl [HS]; · iexact HS
    isplitl [Hp3]; · iexact Hp3
    iexact Hn3
  iintro ⟨HO, HsK, HsV, HdK, HdV⟩
  ihave HS := (at_next m c 3 (by decide)) $$ [HO HsK HsV]
  · isplitl [HO]; · iexact HO
    isplitl [HsK]; · iexact HsK
    iexact HsV
  ihave Hd3 := (show iprop(done m c false 3 (by decide) ∗ done m c true 3 (by decide)) ⊢ dones m c 3 from BI.Entails.refl _) $$ [HdK HdV]
  · isplitl [HdK]; · iexact HdK
    iexact HdV
  iapply (hop m K c 4 (by decide) (dev10_eq c) (dev11_eq c) rfl rfl rfl rfl (credit false 4 (by decide)) (credit false 5 (by decide))
    (credit true 4 (by decide)) (credit true 5 (by decide))
    rfl rfl rfl rfl rfl rfl rfl rfl) $$ [HS Hp4 Hn4]
  · iapply (hop_pack m K c 4 _)
    isplitr; · iexact HR
    isplitr; · iexact Hlev
    isplitl [HS]; · iexact HS
    isplitl [Hp4]; · iexact Hp4
    iexact Hn4
  iintro ⟨HO, HsK, HsV, HdK, HdV⟩
  ihave HS := (at_next m c 4 (by decide)) $$ [HO HsK HsV]
  · isplitl [HO]; · iexact HO
    isplitl [HsK]; · iexact HsK
    iexact HsV
  ihave Hd4 := (show iprop(done m c false 4 (by decide) ∗ done m c true 4 (by decide)) ⊢ dones m c 4 from BI.Entails.refl _) $$ [HdK HdV]
  · isplitl [HdK]; · iexact HdK
    iexact HdV
  iapply (hop m K c 5 (by decide) (dev12_eq c) (dev13_eq c) rfl rfl rfl rfl (credit false 5 (by decide)) (credit false 6 (by decide))
    (credit true 5 (by decide)) (credit true 6 (by decide))
    rfl rfl rfl rfl rfl rfl rfl rfl) $$ [HS Hp5 Hn5]
  · iapply (hop_pack m K c 5 _)
    isplitr; · iexact HR
    isplitr; · iexact Hlev
    isplitl [HS]; · iexact HS
    isplitl [Hp5]; · iexact Hp5
    iexact Hn5
  iintro ⟨HO, HsK, HsV, HdK, HdV⟩
  ihave HS := (at_next m c 5 (by decide)) $$ [HO HsK HsV]
  · isplitl [HO]; · iexact HO
    isplitl [HsK]; · iexact HsK
    iexact HsV
  ihave Hd5 := (show iprop(done m c false 5 (by decide) ∗ done m c true 5 (by decide)) ⊢ dones m c 5 from BI.Entails.refl _) $$ [HdK HdV]
  · isplitl [HdK]; · iexact HdK
    iexact HdV
  iapply (hop m K c 6 (by decide) (dev14_eq c) (dev15_eq c) rfl rfl rfl rfl (credit false 6 (by decide)) (credit false 7 (by decide))
    (credit true 6 (by decide)) (credit true 7 (by decide))
    rfl rfl rfl rfl rfl rfl rfl rfl) $$ [HS Hp6 Hn6]
  · iapply (hop_pack m K c 6 _)
    isplitr; · iexact HR
    isplitr; · iexact Hlev
    isplitl [HS]; · iexact HS
    isplitl [Hp6]; · iexact Hp6
    iexact Hn6
  iintro ⟨HO, HsK, HsV, HdK, HdV⟩
  ihave HS := (at_next m c 6 (by decide)) $$ [HO HsK HsV]
  · isplitl [HO]; · iexact HO
    isplitl [HsK]; · iexact HsK
    iexact HsV
  ihave Hd6 := (show iprop(done m c false 6 (by decide) ∗ done m c true 6 (by decide)) ⊢ dones m c 6 from BI.Entails.refl _) $$ [HdK HdV]
  · isplitl [HdK]; · iexact HdK
    iexact HdV
  ihave He := (hops_end m c) $$ [Hd0 Hd1 Hd2 Hd3 Hd4 Hd5 Hd6 HS]
  · isplitl [Hd0 Hd1 Hd2 Hd3 Hd4 Hd5 Hd6]
    · rw [seven]
      isplitl [Hd0]; · iexact Hd0
      isplitl [Hd1]; · iexact Hd1
      isplitl [Hd2]; · iexact Hd2
      isplitl [Hd3]; · iexact Hd3
      isplitl [Hd4]; · iexact Hd4
      isplitl [Hd5]; · iexact Hd5
      iexact Hd6
    iexact HS
  icases He with ⟨HO, Hz, HK, HV⟩
  iapply Hgo
  unfold zeros
  isplitl [HO]; · unfold owesS; iexact HO
  isplitl [Hzb Hz]
  · isplitl [Hzb]; · iexact Hzb
    iexact Hz
  isplitl [HK]; · iexact HK
  isplitl [HV]; · iexact HV
  isplitl [Hk]; · iexact Hk
  iexact Hv

end Cert.KernelIdeal.Heads

end
-- ==== Proof.Ring.Compute.lean ====
/-
# The computing stretch
-/
module

public import proofs.«01_k».proof.Proof.Ring.Run
public import Idealize.ShloMosaic.Lib.WritesUnit

@[expose] public section

noncomputable section

namespace Cert.KernelIdeal.Heads

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The stages of the activations, of the two projections and of the result, and the two scratches. -/
abbrev xM : Memref sig .tc .vmem S2x512x768 .bf16 := Memref.whole cc0_stg0_0
abbrev qM : Memref sig .tc .vmem S768x512 .bf16 := Memref.whole cc0_stg1_0
abbrev wM : Memref sig .tc .vmem S512x768 .bf16 := Memref.whole cc0_stg2_0
abbrev oM : Memref sig .tc .vmem S2x512x768 .f32 := Memref.whole cc0_stg5_0
abbrev kB : Memref sig .tc .vmem S8x2x8x512x64 .bf16 := Memref.whole cc0_scratch0
abbrev vB : Memref sig .tc .vmem S8x2x8x512x64 .bf16 := Memref.whole cc0_scratch1

/-- The output buffer from its two batches. -/
def twoRows (y0 y1 : Vec F S1x512x768 .f32) : S2x512x768.Idx → Elt F .f32 :=
  fun i => if (i 0).val = 0 then y0 (ix3 (n0 := 1) (n1 := 512) (n2 := 768) 0 (i 1) (i 2)) else y1 (ix3 (n0 := 1) (n1 := 512) (n2 := 768) 0 (i 1) (i 2))

/-- Two stores, of the second batch and before it of the first, leave the two batches. -/
theorem rows_written (o : (cc0_stg5_0 : Ref sig .tc).ty.Contents (Elt F)) (y0 y1 : Vec F S1x512x768 .f32) :
    oM.view.writes (Elt F) o [⟨Rect.unit (s := S2x512x768) ![1, 0, 0] S1x512x768.size inb_S2x512x768_S1x512x768_1_0_0, y1⟩,
      ⟨Rect.unit (s := S2x512x768) ![0, 0, 0] S1x512x768.size inb_S2x512x768_S1x512x768_0_0_0, y0⟩] = twoRows y0 y1 := by
  have key : ∀ i : S2x512x768.Idx, oM.view.read (Elt F) (oM.view.writes (Elt F) o [⟨Rect.unit (s := S2x512x768) ![1, 0, 0] S1x512x768.size inb_S2x512x768_S1x512x768_1_0_0, y1⟩,
      ⟨Rect.unit (s := S2x512x768) ![0, 0, 0] S1x512x768.size inb_S2x512x768_S1x512x768_0_0_0, y0⟩]) i = twoRows y0 y1 i := by
    intro i
    unfold twoRows
    have hi : (i 0).val < 2 := (i 0).isLt
    by_cases h : (i 0).val = 0
    · rw [if_pos h]
      refine (View.read_writes_cons_unit_of_not_mem (off' := ![1, 0, 0]) oM.view o inb_S2x512x768_S1x512x768_1_0_0 y1 _ i rfl 0 (.inl ?_)).trans
        (View.read_writes_cons_unit_of_mem (off' := ![0, 0, 0]) oM.view o inb_S2x512x768_S1x512x768_0_0_0 y0 [] i (ix3 (n0 := 1) (n1 := 512) (n2 := 768) 0 (i 1) (i 2)) rfl ?_)
      · show (i 0).val < 1; omega
      · intro a
        match a with
        | ⟨0, _⟩ => exact h
        | ⟨1, _⟩ => exact (Nat.zero_add _).symm
        | ⟨2, _⟩ => exact (Nat.zero_add _).symm
    · rw [if_neg h]
      refine View.read_writes_cons_unit_of_mem (off' := ![1, 0, 0]) oM.view o inb_S2x512x768_S1x512x768_1_0_0 y1 _ i (ix3 (n0 := 1) (n1 := 512) (n2 := 768) 0 (i 1) (i 2)) rfl ?_
      intro a
      match a with
      | ⟨0, _⟩ => exact (show (i 0).val = 1 by omega)
      | ⟨1, _⟩ => exact (Nat.zero_add _).symm
      | ⟨2, _⟩ => exact (Nat.zero_add _).symm
  refine Eq.trans ?_ (funext key)
  simp only [Memref.view_whole, View.read_whole]

/-- The rest of the body after the ring: its six buffers held, it fills the output buffer with the batches `y`. -/
def Computes (c : Dev nD)
    (x : Buf (Elt F) (xM.view.loc (c : Thread nD τ))) (q : Buf (Elt F) (qM.view.loc (c : Thread nD τ))) (w : Buf (Elt F) (wM.view.loc (c : Thread nD τ)))
    (k : Buf (Elt F) (kB.view.loc (c : Thread nD τ))) (v : Buf (Elt F) (vB.view.loc (c : Thread nD τ))) (a : BitVec 32)
    (y : Vec F S1x512x768 .f32 × Vec F S1x512x768 .f32) : Prop :=
  ∀ (h0 : xM.IsWhole) (h1 : qM.IsWhole) (h2 : wM.IsWhole) (h3 : kM.IsWhole) (h4 : vM.IsWhole) (h5 : oM.IsWhole) (h6 : kB.IsWhole) (h7 : vB.IsWhole)
    (o : Buf (Elt F) (oM.view.loc (c : Thread nD τ))) (Q : PUnit → sProp 𝕄),
    iprop((xM.view.loc (c : Thread nD τ) ↦{fullShare} x) ∗ (qM.view.loc (c : Thread nD τ) ↦{fullShare} q) ∗ (wM.view.loc (c : Thread nD τ) ↦{fullShare} w)
      ∗ (oM.view.loc (c : Thread nD τ) ↦{fullShare} o) ∗ (kB.view.loc (c : Thread nD τ) ↦{fullShare} k) ∗ (vB.view.loc (c : Thread nD τ) ↦{fullShare} v)
      ∗ (((xM.view.loc (c : Thread nD τ) ↦{fullShare} x) ∗ (qM.view.loc (c : Thread nD τ) ↦{fullShare} q) ∗ (wM.view.loc (c : Thread nD τ) ↦{fullShare} w)
        ∗ (oM.view.loc (c : Thread nD τ) ↦{fullShare} (twoRows y.1 y.2 : (cc0_stg5_0 : Ref sig .tc).ty.Contents (Elt F))) ∗ (kB.view.loc (c : Thread nD τ) ↦{fullShare} k) ∗ (vB.view.loc (c : Thread nD τ) ↦{fullShare} v)) -∗ Q ⟨⟩))
      ⊢ wp frame (wpE (defs₀ (F := F)) 𝒱₀ (c : Thread nD τ) none) Set.univ
          (st1.tail xM h0 qM h1 wM h2 kM h3 vM h4 oM h5 kB h6 vB h7 cc0_scratch2 cc0_scratch3 cc0_scratch4 cc0_scratch5 a k0_pay5 k0_pay6
            >>= fun ⟨v463, v465, v914, v962, v1010, v1058, v1106, v1154, v1202, v1237, v1241⟩ => do
              let v1253 : Vec F S1x512x768 .f32 ← Prog.lift (.load oM (Rect.unit (s := S2x512x768) ![1, 0, 0] S1x512x768.size inb_S2x512x768_S1x512x768_1_0_0).toLoadRect (View.loadsAt_vmem h_S1x512x768))
              Prog.lift (.store oM (Rect.unit (s := S2x512x768) ![1, 0, 0] S1x512x768.size inb_S2x512x768_S1x512x768_1_0_0) (k0_pay1 v463 v465 v914 v962 v1010 v1058 v1106 v1154 v1202 v1237 v1241) Finset.univ (View.stores_vmem_bits_univ h_S1x512x768 rfl) (.inl rfl))
              pure ⟨⟩) Q

set_option sl_exec.resultNames true in
set_option maxHeartbeats 40000000 in
set_option maxRecDepth 65536 in
/-- What the body computes from its buffers after the ring. -/
def computed (c : Dev nD)
    (x : Buf (Elt F) (xM.view.loc (c : Thread nD τ))) (q : Buf (Elt F) (qM.view.loc (c : Thread nD τ))) (w : Buf (Elt F) (wM.view.loc (c : Thread nD τ)))
    (k : Buf (Elt F) (kB.view.loc (c : Thread nD τ))) (v : Buf (Elt F) (vB.view.loc (c : Thread nD τ))) (a : BitVec 32) :
    { y : Vec F S1x512x768 .f32 × Vec F S1x512x768 .f32 // Computes c x q w k v a y } := by
  refine ⟨(?y0, ?y1), ?run⟩
  case run =>
    unfold Computes
    intro h0 h1 h2 h3 h4 h5 h6 h7 o Q
    unfold st1.tail
    iintro ⟨Hx, Hq, Hw, Ho, Hk, Hv, HQ⟩
    sl_exec_parts
    sl_step
    iapply HQ
    isplitl [Hx]; · iexact Hx
    isplitl [Hq]; · iexact Hq
    isplitl [Hw]; · iexact Hw
    isplitl [Ho]
    · unfold computed.sl.Ho_1
      ihave Ho' := (Entails.of_eq (congrArg (fun f => (oM.view.loc (c : Thread nD τ) ↦{fullShare} f : sProp 𝕄)) (rows_written o _ _))) $$ Ho
      iexact Ho'
    isplitl [Hk]; · iexact Hk
    iexact Hv

end Cert.KernelIdeal.Heads

end
-- ==== Proof.Ring.Body.lean ====
/-
# The kernel's body on one device

The body takes the ring's resources, the five blocks fetched and the output block, and leaves the blocks as they
were, the output block computed, both ring buffers filled and every counter at zero.
-/
module

public import proofs.«01_k».proof.Proof.Ring.Compute

@[expose] public section

noncomputable section

namespace Cert.KernelIdeal.Heads

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The modulus that the body's mask uses. -/
abbrev four : BitVec 32 := Scalar.select (Scalar.cmpi .eq 4#32 0#32) 1#32 4#32

/-- The two batches that device `c` computes. -/
def batches (c : Dev nD) : Vec F S1x512x768 .f32 × Vec F S1x512x768 .f32 :=
  (computed c (iblk m c 0 t0_0) (iblk m c 1 t0_0) (iblk m c 2 t0_0) (full m false c) (full m true c) four).1

/-- The kernel's result on device `c`. -/
def outAt (c : Dev nD) : (cc0_stg5_0 : Ref sig .tc).ty.Contents (Elt F) := twoRows (batches m c).1 (batches m c).2

/-- The ring's resources on device `c` at launch. -/
def start (c : Dev nD) : sProp 𝕄 :=
  iprop(∃ K, records m K ∗ levAts L lv ∗ atPos ER (barCell c) 0 ∅ 0 ∗ dutyTok ER (barCell (prv c)) 0 ()
    ∗ cred (tallyAt (barCell c) () 1) ∗ bigSep Finset.univ fun h : Fin 7 => pends c h)

/-- Before the body: the ring's resources and the two ring buffers, whatever they hold. -/
def Φ₀ (c : Dev nD) : sProp 𝕄 :=
  iprop(start m c ∗ (∃ f, (scrM false).view.loc (c : Thread nD τ) ↦{fullShare} f) ∗ ∃ f, (scrM true).view.loc (c : Thread nD τ) ↦{fullShare} f)

/-- After it: the counters at zero and the buffers filled. -/
def Φ₁ (c : Dev nD) : sProp 𝕄 :=
  iprop(zeros c ∗ ((scrM false).view.loc (c : Thread nD τ) ↦{fullShare} full m false c) ∗ ((scrM true).view.loc (c : Thread nD τ) ↦{fullShare} full m true c))

/-- The pipeline's proof data on device `c`. -/
def dats (_ : Fin 1) (c : Dev nD) : Dat τ (Elt F) Unit ℕ UU ℕ cfg0 c where
  A w := V m c (Pipeline.arrRef spec0 w)
  after w _ := match w with
    | ⟨0, _⟩ => iblk m c 0 t0_0
    | ⟨1, _⟩ => iblk m c 1 t0_0
    | ⟨2, _⟩ => iblk m c 2 t0_0
    | ⟨3, _⟩ => iblk m c 3 t0_0
    | ⟨4, _⟩ => iblk m c 4 t0_0
    | ⟨5, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- A staging buffer of device `c` holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- Owning a whole buffer is owning its elements at the window that a stage takes of it. -/
theorem owns_stage (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- What a device holds when its body starts. -/
def bodyPre (c : Dev nD) : sProp 𝕄 :=
  iprop(Φ₀ m c ∗ (dats m 0 c).owesAt () t0_0.castSucc
    ∗ (∃ d, stg c cc0_stg0_0 ((dats m 0 c).before (0 : Fin 6) t0_0 d))
    ∗ (∃ d, stg c cc0_stg1_0 ((dats m 0 c).before (1 : Fin 6) t0_0 d))
    ∗ (∃ d, stg c cc0_stg2_0 ((dats m 0 c).before (2 : Fin 6) t0_0 d))
    ∗ (∃ d, stg c cc0_stg3_0 ((dats m 0 c).before (3 : Fin 6) t0_0 d))
    ∗ (∃ d, stg c cc0_stg4_0 ((dats m 0 c).before (4 : Fin 6) t0_0 d))
    ∗ (∃ d, stg c cc0_stg5_0 ((dats m 0 c).before (5 : Fin 6) t0_0 d)))

/-- What a device holds when its body returns. -/
def bodyPost (c : Dev nD) : sProp 𝕄 :=
  iprop(Φ₁ m c ∗ (dats m 0 c).owesAt () t0_0.succ
    ∗ stg c cc0_stg0_0 (iblk m c 0 t0_0) ∗ stg c cc0_stg1_0 (iblk m c 1 t0_0) ∗ stg c cc0_stg2_0 (iblk m c 2 t0_0)
    ∗ stg c cc0_stg3_0 (iblk m c 3 t0_0) ∗ stg c cc0_stg4_0 (iblk m c 4 t0_0) ∗ stg c cc0_stg5_0 (outAt m c))

theorem before_0 (c : Dev nD) (d) : (dats m 0 c).before (0 : Fin 6) t0_0 d = iblk m c 0 t0_0 := by unfold Dat.before; rw [if_pos (fetch0_0 t0_0)]; rfl
theorem before_1 (c : Dev nD) (d) : (dats m 0 c).before (1 : Fin 6) t0_0 d = iblk m c 1 t0_0 := by unfold Dat.before; rw [if_pos (fetch0_1 t0_0)]; rfl
theorem before_2 (c : Dev nD) (d) : (dats m 0 c).before (2 : Fin 6) t0_0 d = iblk m c 2 t0_0 := by unfold Dat.before; rw [if_pos (fetch0_2 t0_0)]; rfl
theorem before_3 (c : Dev nD) (d) : (dats m 0 c).before (3 : Fin 6) t0_0 d = iblk m c 3 t0_0 := by unfold Dat.before; rw [if_pos (fetch0_3 t0_0)]; rfl
theorem before_4 (c : Dev nD) (d) : (dats m 0 c).before (4 : Fin 6) t0_0 d = iblk m c 4 t0_0 := by unfold Dat.before; rw [if_pos (fetch0_4 t0_0)]; rfl

set_option maxHeartbeats 4000000 in
set_option maxRecDepth 65536 in
/-- The body from `bodyPre` to `bodyPost`: the ring, then the computing stretch. -/
theorem sound_body (c : Dev nD) (Kt : PUnit → sProp 𝕄) :
    iprop(bodyPre m c ∗ (bodyPost m c -∗ Kt ⟨⟩))
      ⊢ wp frame (wpE (defs₀ (F := F)) 𝒱₀ (c : Thread nD τ) none) Set.univ
          (cc0_body xM (Memref.isWhole_whole _) qM (Memref.isWhole_whole _) wM (Memref.isWhole_whole _) kM (Memref.isWhole_whole _) vM (Memref.isWhole_whole _)
            oM (Memref.isWhole_whole _) kB (Memref.isWhole_whole _) vB (Memref.isWhole_whole _) cc0_scratch2 cc0_scratch3 cc0_scratch4 cc0_scratch5) Kt := by
  rw [cc0_body_eq_skeleton]
  unfold cc0_body_skel
  rw [k0_part56_eq_skeleton, st1.eq, wp_bind]
  unfold bodyPre Φ₀ start
  simp only [before_0, before_1, before_2, before_3, before_4]
  iintro ⟨⟨⟨⟨%K, #HR, #Hlev, Hat, Htok, Hcr, Hp⟩, Hs0, Hs1⟩, HO, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩⟩, HK⟩
  subst e0 e1 e2 e3 e4
  ihave HO := (show (dats m 0 c).owesAt () t0_0.castSucc ⊢ owesS c (O₀ c) from by
    unfold Dat.owesAt Pipeline.owesWithin owesS
    iintro ⟨%W, -, H⟩
    iexists W; iexact H) $$ HO
  iapply (ring_run m K c) $$ [HR Hlev Hat Htok Hcr Hp Hs0 Hs1 HO H3 H4]
  · unfold ringPre
    isplitr [H3 H4]
    · isplitr; · iexact HR
      isplitr; · iexact Hlev
      isplitl [HO]; · iexact HO
      isplitl [Hat]; · iexact Hat
      isplitl [Htok]; · iexact Htok
      isplitl [Hcr]; · iexact Hcr
      isplitl [Hp]; · iexact Hp
      isplitl [Hs0]; · iexact Hs0
      iexact Hs1
    isplitl [H3]; · iexact H3
    iexact H4
  iintro ⟨HO, Hz, Hs0, Hs1, H3, H4⟩
  rw [← wp_bind]
  iapply ((computed c (iblk m c 0 t0_0) (iblk m c 1 t0_0) (iblk m c 2 t0_0) (full m false c) (full m true c) four).2
    (Memref.isWhole_whole _) (Memref.isWhole_whole _) (Memref.isWhole_whole _) (Memref.isWhole_whole _) (Memref.isWhole_whole _)
    (Memref.isWhole_whole _) (Memref.isWhole_whole _) (Memref.isWhole_whole _) f5 Kt)
  isplitl [H0]; · iexact H0
  isplitl [H1]; · iexact H1
  isplitl [H2]; · iexact H2
  isplitl [H5]; · iexact H5
  isplitl [Hs0]; · iexact Hs0
  isplitl [Hs1]; · iexact Hs1
  iintro ⟨H0, H1, H2, H5, Hs0, Hs1⟩
  iapply HK
  unfold bodyPost Φ₁
  isplitl [Hz Hs0 Hs1]
  · isplitl [Hz]; · iexact Hz
    isplitl [Hs0]; · iexact Hs0
    iexact Hs1
  isplitl [HO]
  · iapply (show owesS c 0 ⊢ (dats m 0 c).owesAt () t0_0.succ from by
      unfold Dat.owesAt Pipeline.owesWithin owesS
      iintro ⟨%W, H⟩
      iexists W
      isplitr; · ipureintro; exact fun _ _ => Or.inl trivial
      iexact H)
    iexact HO
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]; · iexists _; isplitr; · ipureintro; rfl
                  iexact H4
  iexists _; isplitr; swap; · iexact H5
  ipureintro; rfl

/-- The same to `bodyPost` as the postcondition. -/
theorem sound_body' (c : Dev nD) :
    bodyPre m c ⊢ wp frame (wpE (defs₀ (F := F)) 𝒱₀ (c : Thread nD τ) none) Set.univ
          (cc0_body xM (Memref.isWhole_whole _) qM (Memref.isWhole_whole _) wM (Memref.isWhole_whole _) kM (Memref.isWhole_whole _) vM (Memref.isWhole_whole _)
            oM (Memref.isWhole_whole _) kB (Memref.isWhole_whole _) vB (Memref.isWhole_whole _) cc0_scratch2 cc0_scratch3 cc0_scratch4 cc0_scratch5) (fun _ => bodyPost m c) := by
  iintro H
  iapply (sound_body m c fun _ => bodyPost m c)
  isplitl [H]; · iexact H
  iintro H; iexact H

/-- The body table's row. -/
theorem defs₀_row : (c : Dev nD) → defs₀ (F := F) .tc cfg0.body (cfg0.bodyArgs t0_0 (cfg0.slots t0_0)) = bodyAt0 t0_0 := by
  intro c
  unfold defs₀; rw [Defs.onTc_tc]

set_option maxRecDepth 8000 in
/-- The library's body obligation. -/
theorem body_obligation (c : Dev nD) : BodyObligation (dats (F := F) m 0 c) (defs₀ (F := F)) 𝒱₀ () Set.univ := fun t => by
  rw [fin_N0 t]
  rw [show ∀ Φ : Fin cfg0.W → sProp 𝕄, bigSep Finset.univ Φ = iprop(Φ (0 : Fin 6) ∗ Φ (1 : Fin 6) ∗ Φ (2 : Fin 6) ∗ Φ (3 : Fin 6) ∗ Φ (4 : Fin 6) ∗ Φ (5 : Fin 6)) from bigSep_W0,
    show ∀ Φ : Fin cfg0.W → sProp 𝕄, bigSep Finset.univ Φ = iprop(Φ (0 : Fin 6) ∗ Φ (1 : Fin 6) ∗ Φ (2 : Fin 6) ∗ Φ (3 : Fin 6) ∗ Φ (4 : Fin 6) ∗ Φ (5 : Fin 6)) from bigSep_W0]
  simp only [owns_stage]
  rw [defs₀_row c]
  exact triple_restated (sound_body' m c) rfl .rfl fun _ => .rfl

end Cert.KernelIdeal.Heads

end
-- ==== Proof.Ring.Launch.lean ====
/-
# The launch and the run

The launch element deals every device its cells, places and contributions; dealt around the ring they are what each
body starts from. `run_main` is the whole program's run: every result array at its computed contents, every argument
unchanged and every counter at zero.
-/
module

public import proofs.«01_k».proof.Proof.Ring.Body
public import Idealize.ShloMosaic.Lib.Pipeline.CollectiveSegs

@[expose] public section

noncomputable section

namespace Cert.KernelIdeal.Heads

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The ring's copies' semaphores, which the kernel owns. -/
abbrev osem : Bool × Bool × Fin 7 → SemLoc sig := fun q => csem (some q)

/-- The kernel's own semaphores are different from each other and from those of the staging. -/
theorem ownSemFacts : Pipeline.OwnSemFacts cfg0.spec osem := by decide +kernel

/-- No cell of the protocol is a semaphore of the staging. -/
theorem csem_stage : ∀ (w : Fin 6) (s : Fin (spec0 w).nbuf) (k : CK), csem k ≠ .dma ((spec0 w).sem s) := by decide +kernel

/-- Every array is held whole. -/
theorem share_eq (c : Dev nD) (w : Fin cfg0.W) : (dats m 0 c).share w = fullShare := by unfold Dat.share; split <;> rfl

/-! ## Sums over the cells -/

/-- Over a device's ring semaphores: the barrier's, the departures', the arrivals'. -/
theorem cells_split (Φ : CK → sProp 𝕄) : bigSep Finset.univ Φ
    = iprop(Φ none ∗ (bigSep Finset.univ fun p : Bool × Fin 7 => Φ (some (false, p))) ∗ bigSep Finset.univ fun p : Bool × Fin 7 => Φ (some (true, p))) := by
  have e : (Finset.univ : Finset CK).erase none = (Finset.univ : Finset (Bool × Bool × Fin 7)).map ⟨some, Option.some_injective _⟩ := by
    ext k; cases k <;> simp
  rw [bigSep_univ_at Φ none, e, bigSep_map, bigSep_univ_prod]
  exact congrArg (fun X => iprop(Φ none ∗ X)) (bigSep_univ_eq_bigSepL [false, true] (by decide) (by decide) _)

/-- Over the copies: hop by hop, the keys' and the values'. -/
theorem by_hop (Φ : Bool × Fin 7 → sProp 𝕄) : bigSep Finset.univ Φ = bigSep Finset.univ fun h : Fin 7 => iprop(Φ (false, h) ∗ Φ (true, h)) := by
  rw [bigSep_univ_prod, bigSep_sep']
  exact bigSep_univ_eq_bigSepL [false, true] (by decide) (by decide) _

/-! ## The launch element -/

/-- All the cells of the protocol. -/
def ringCells : Finset (GSem nD τ sig) := Finset.univ.map ⟨kcell, kcell_injective⟩

/-- The right to pay a cell. -/
abbrev tokOf (ck : Dev nD × CK) : GSem nD τ sig × ℕ × Unit := (kcell ck, 0, ())
/-- Different cells have different rights. -/
theorem tokOf_injective : Function.Injective (tokOf : Dev nD × CK → GSem nD τ sig × ℕ × Unit) :=
  fun _ _ h => kcell_injective (congrArg Prod.fst h)
/-- All the rights to pay. -/
def ringToks : Finset (GSem nD τ sig × ℕ × Unit) := Finset.univ.map ⟨tokOf, tokOf_injective⟩

/-- The ghost state at launch. -/
def u₀ : UU :=
  (initOf (Pipeline.cells cfgs cellOf_inj) (Pipeline.launchToks cfgs cellOf_inj), initOf ringCells ringToks)

/-- The contributions to device `c`'s own cells. -/
def toks (c : Dev nD) : sProp 𝕄 := bigSep Finset.univ fun k : CK => dutyTok ER (kcell (c, k)) 0 ()

/-- What the launch element deals device `c`. -/
def G (c : Dev nD) : sProp 𝕄 :=
  iprop((bigSep Finset.univ fun k : CK => roundState ER (ringRd m) (kcell (c, k)) 0)
    ∗ (bigSep Finset.univ fun k : CK => iprop(atPos ER (kcell (c, k)) 0 ∅ 0 ∗ reached ER (kcell (c, k)) 0)) ∗ toks c)

/-- What stays with device `c`: its places, and the contributions that it makes. -/
def payToks (c : Dev nD) : sProp 𝕄 :=
  iprop(dutyTok ER (barCell (prv c)) 0 () ∗ (bigSep Finset.univ fun p : Bool × Fin 7 => dutyTok ER (kcell (c, some (false, p))) 0 ())
    ∗ bigSep Finset.univ fun p : Bool × Fin 7 => dutyTok ER (kcell (nxt c, some (true, p))) 0 ())
/-- What a device takes with it at launch and uses once. -/
def linear (c : Dev nD) : sProp 𝕄 :=
  iprop((bigSep Finset.univ fun k : CK => atPos ER (kcell (c, k)) 0 ∅ 0) ∗ payToks c)

/-- What the launch makes of it. -/
def G' (c : Dev nD) : sProp 𝕄 := iprop(∃ K, records m K ∗ linear c)

/-- The ghost state at launch funds every device. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier semaphore is the one semaphore that outlives the kernel. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The kernel's own semaphores at zero, one by one. -/
theorem ownSems0_eq (c : Dev nD) : (Pipeline.ownSems0 (Ix := Unit) (Name := ℕ) (U := UU) (Lvl := ℕ) (Val := Elt F) (τ := τ) osem c : sProp 𝕄)
    = iprop((bigSep Finset.univ fun p : Bool × Fin 7 => semVal (kcell (c, some (false, p))) 0) ∗ bigSep Finset.univ fun p : Bool × Fin 7 => semVal (kcell (c, some (true, p))) 0) := by
  unfold Pipeline.ownSems0
  rw [bigSep_univ_prod]
  exact bigSep_univ_eq_bigSepL [false, true] (by decide) (by decide) _

/-- All of a device's ring semaphores at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, cells_split]
  iintro ⟨⟨HS, HV⟩, HB⟩
  isplitl [HB]; · iexact HB
  isplitl [HS] <;> iassumption

/-- One device's cells become invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The contributions dealt around the ring: the barrier's to the next device, the arrivals' to the device before. -/
theorem toks_around : (bigSep Finset.univ fun c : Dev nD => (toks c : sProp 𝕄)) ⊢ bigSep Finset.univ fun c : Dev nD => payToks c := by
  unfold toks payToks
  simp only [cells_split]
  rw [bigSep_sep', bigSep_sep', bigSep_sep', bigSep_sep',
    bigSep_univ_equiv ring.symm (fun c : Dev nD => (dutyTok ER (barCell c) 0 () : sProp 𝕄)),
    bigSep_univ_equiv ring (fun c : Dev nD => (bigSep Finset.univ fun p : Bool × Fin 7 => dutyTok ER (kcell (c, some (true, p))) 0 () : sProp 𝕄))]
  iintro ⟨H1, H2, H3⟩
  isplitl [H1]; · iexact H1
  isplitl [H2]; · iexact H2
  iexact H3

/-- What may be used any number of times goes to every member of a family. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Every device gets all the invariants, its places and the contributions that it makes. -/
theorem regroup :
    (bigSep Finset.univ fun c : Dev nD => iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CK => iprop(∃ κ : ℕ, cellInv ER (ringRd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (ringRd m) κ (kcell ck) : sProp 𝕄))) $$ HI
  icases HK with ⟨%K, #HI⟩
  ihave Htk := (toks_around (F := F)) $$ Htok
  iapply (with_persistent (R := records m K) (Φ := linear) fun c _ => show iprop(records m K ∗ linear c) ⊢ G' m c from by
    unfold G'; iintro H; iexists K; iexact H)
  isplitr
  · unfold records; isplitl; · iexact HI
    iexact HR
  · iapply ((Entails.of_eq (bigSep_sep' Finset.univ (fun c : Dev nD => bigSep Finset.univ fun k : CK => (atPos ER (kcell (c, k)) 0 ∅ 0 : sProp 𝕄)) payToks).symm).trans
      (bigSep_mono fun c _ => show _ ⊢ linear c from Entails.of_eq rfl))
    isplitl [Hat]; · iexact Hat
    iexact Htk

/-- The launch's step over all devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

/-- All fourteen arrivals that a device owes. -/
theorem owed_all (c : Dev nD) : owed c 14 = ∑ p : Bool × Fin 7, tallyAt (kcell (nxt c, some (true, p))) () N := by
  let t (w : Bool) (h : Fin 7) : CellTallies nD τ sig Unit := tallyAt (kcell (nxt c, some (true, w, h))) () N
  rw [Fintype.sum_prod_type, Fintype.sum_bool, Fin.sum_univ_seven, Fin.sum_univ_seven]
  show 0 + t true 6 + t false 6 + t true 5 + t false 5 + t true 4 + t false 4 + t true 3 + t false 3 + t true 2 + t false 2 + t true 1 + t false 1 + t true 0 + t false 0
    = (t true 0 + t true 1 + t true 2 + t true 3 + t true 4 + t true 5 + t true 6) + (t false 0 + t false 1 + t false 2 + t false 3 + t false 4 + t false 5 + t false 6)
  abel

/-- A device's launch credit: its barrier's unit and its fourteen arrivals. -/
theorem creds (c : Dev nD) :
    (Pipeline.launchCred O₀ c : sProp 𝕄)
      ⊢ iprop((bigSep Finset.univ fun p : Bool × Fin 7 => cred (tallyAt (kcell (c, some (true, p))) () N)) ∗ cred (tallyAt (barCell c) () 1)) := by
  rw [show (O₀ : Dev nD → CellTallies nD τ sig Unit) = fun d => (∑ p : Bool × Fin 7, tallyAt (kcell (nxt d, some (true, p))) () N) + tallyAt (barCell (prv d)) () 1 from
    funext fun d => by unfold O₀; rw [owed_all], Pipeline.launchCred_add, Pipeline.launchCred_sum Finset.univ (fun (p : Bool × Fin 7) d => tallyAt (kcell (nxt d, some (true, p))) () N)]
  exact BI.sep_mono (bigSep_mono fun p _ => Pipeline.launchCred_tallyAt (csem (some (true, p))) nxt prv nxt_prv prv_nxt () N c)
    (Pipeline.launchCred_tallyAt (csem none) prv nxt prv_nxt nxt_prv () 1 c)

/-! ## The launch theorem's side conditions -/

/-- What a body starts from, gathered. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  have e : iprop((bigSep Finset.univ fun p : Bool × Fin 7 => atPos ER (kcell (c, some (false, p))) 0 ∅ 0)
      ∗ (bigSep Finset.univ fun p : Bool × Fin 7 => atPos ER (kcell (c, some (true, p))) 0 ∅ 0)
      ∗ (bigSep Finset.univ fun p : Bool × Fin 7 => dutyTok ER (kcell (c, some (false, p))) 0 ())
      ∗ (bigSep Finset.univ fun p : Bool × Fin 7 => dutyTok ER (kcell (nxt c, some (true, p))) 0 ())
      ∗ (bigSep Finset.univ fun p : Bool × Fin 7 => cred (tallyAt (kcell (c, some (true, p))) () N)))
      ⊢ (bigSep Finset.univ fun h : Fin 7 => pends c h : sProp 𝕄) := by
    rw [← bigSep_sep', ← bigSep_sep', ← bigSep_sep', ← bigSep_sep', by_hop]
    exact BI.Entails.refl _
  iintro ⟨-, Hlev, Hcr, -, HG⟩
  ihave Hc := (creds (F := F) c) $$ Hcr
  icases Hc with ⟨HN, H1⟩
  imodintro
  unfold start G' linear payToks
  simp only [cells_split]
  icases HG with ⟨%K, HR, ⟨HaB, HaS, HaV⟩, HtB, HtS, HtV⟩
  isplitl
  · iexists K
    isplitl [HR]; · iexact HR
    isplitl [Hlev]; · iexact Hlev
    isplitl [HaB]; · iexact HaB
    isplitl [HtB]; · iexact HtB
    isplitl [H1]; · iexact H1
    iapply e
    isplitl [HaS]; · iexact HaS
    isplitl [HaV]; · iexact HaV
    isplitl [HtS]; · iexact HtS
    isplitl [HtV]; · iexact HtV
    iexact HN
  · iempintro

/-- What the region starts with gives what the body starts with. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr0, Hr1⟩
  isplitl [Hs]; · iexact Hs
  isplitl [Hr0]; · iexact Hr0
  iexact Hr1

/-- What the body returns with gives what the region ends with. -/
theorem phi1_exit (c : Dev nD) :
    (dats m 0 c).Φ (Fin.last cfg0.N) ⊢ iprop(unscopedSems0 c ∗ Pipeline.ownSems0 osem c ∗ Pipeline.scopedRest cfg0.spec c) := by
  have e : (bigSep Finset.univ fun h : Fin 7 => (zero c h : sProp 𝕄)) ⊢ Pipeline.ownSems0 osem c := by
    rw [ownSems0_eq, ← bigSep_sep', by_hop]
    exact BI.Entails.refl _
  rw [show (dats m 0 c).Φ (Fin.last cfg0.N) = Φ₁ m c from rfl, scopedRest0_eq, unscopedSems0_eq]
  unfold Φ₁ zeros
  iintro ⟨⟨HzB, Hz⟩, H0, H1⟩
  isplitl [HzB]; · iexact HzB
  isplitl [Hz]; · iapply e; iexact Hz
  isplitl [H0]
  · iexists (full m false c); iexact H0
  iexists (full m true c); iexact H1

/-- The staging's waits are below everything that is owed. -/
theorem waits (c : Dev nD) : (levAts L lv : sProp 𝕄) ⊢ Pipeline.cellsWaits cfgs (dats m) () 0 c :=
  Pipeline.cellsWaits_intro cfgs (dats m) () 0 c fun w s t =>
    mayWait_stage c _ (csem_stage w s) _ (by
      rcases t with ⟨_ | _, ht⟩
      · exact Or.inl rfl
      · exact Or.inr rfl)

/-! ## The run -/

/-- What array `w` of device `c` holds in the end. -/
def finalA (c : Dev nD) (w : Fin cfg0.W) : Buf (Elt F) ((cfg0.win w).arr.view.loc (c : Thread nD τ)) := (dats m 0 c).arrAt w cfg0.N

/-- The end of the run: every array holds its final contents. -/
def QC : PUnit × MemSt nD τ sig (Elt F) → Prop := fun r =>
  ∀ c : Dev nD, ∀ w : Fin cfg0.W, r.2.mem ((cfg0.win w).arr.view.loc (c : Thread nD τ)) = finalA m c w

set_option maxRecDepth 100000 in
/-- For any float values, from any memory with zero counters: every weakly fair execution of the program on the eight
    devices terminates, every array ends at the computed contents and every counter at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Heads

end
-- ==== Proof.Ring.Frames.lean ====
/-
# The frames

From the one run over any float values: the arguments of the kernel, at words and at the reals, end unchanged, and so
do the reference's.
-/
module

public import proofs.«01_k».proof.Proof.Ring.Launch
public import proofs.«01_k».proof.Proof.Gen.KernelIdeal.Frame
public import proofs.«01_k».proof.Proof.Gen.Kernel.Frame
public import proofs.«01_k».proof.Proof.Gen.ReferenceIdeal.Run
public import proofs.«01_k».proof.Defs

@[expose] public section

noncomputable section

namespace Cert.KernelIdeal.Heads

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- An array that the region reads holds in the end what it held at launch. -/
theorem final_in (c : Dev nD) (w : Fin cfg0.W) (hw : (cfg0.win w).isOut = false) : finalA m c w = V m c (Pipeline.arrRef spec0 w) :=
  ((dats m 0 c).arrAt_in w hw _).trans rfl

/-- From the arrays' final contents: every argument as at launch. -/
theorem args_unchanged {r : PUnit × MemSt nD τ sig (Elt F)} (h : QC m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(h c 0).trans (final_in m c 0 rfl), (h c 1).trans (final_in m c 1 rfl), (h c 3).trans (final_in m c 3 rfl),
    (h c 4).trans (final_in m c 4 rfl), (h c 2).trans (final_in m c 2 rfl)⟩

/-- The kernel over the reals terminates without fault, its arguments unchanged, its counters at zero. -/
theorem frame_ideal : Cert.quiescent_KernelIdeal := fun m ρ _ =>
  (θ_run defs _ _).mono (fun _ h => ⟨args_unchanged m h.1, h.2⟩) (run_main m ρ)

/-- The run over words, the arguments unchanged and the counters at zero. -/
theorem run_words (m : (ℓ : Loc nD τ sig) → Buf (Elt Bits) ℓ) (ρ : Dev nD → PrngReg) :
    θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨args_unchanged m h.1, h.2⟩) (run_main m ρ)

/-- The kernel's body, printed for words, is the body printed for the reals read at words: one text. -/
theorem body_text : Cert.Kernel.cc0_body (F := Bits) = cc0_body (F := Bits) := rfl

/-- So its body table is the same too. -/
theorem table_text : Cert.Kernel.defs₀ (F := Bits) = defs₀ (F := Bits) := by
  unfold Cert.Kernel.defs₀ Cert.KernelIdeal.defs₀
  refine congrArg Defs.onTc (funext fun l => funext fun a => ?_)
  match l, a with
  | ⟨0, _⟩, (t, s) =>
    exact congrArg (a₁ := Cert.Kernel.cc0_body (F := Bits)) (a₂ := cc0_body (F := Bits))
      (fun f => f (win0_0.stage (s 0)) (hstage0_0 0) (win0_1.stage (s 1)) (hstage0_1 0) (win0_2.stage (s 2)) (hstage0_2 0)
        (win0_3.stage (s 3)) (hstage0_3 0) (win0_4.stage (s 4)) (hstage0_4 0) (win0_5.stage (s 5)) (hstage0_5 0)
        (Memref.whole cc0_scratch0) (Memref.isWhole_whole _) (Memref.whole cc0_scratch1) (Memref.isWhole_whole _)
        cc0_scratch2 cc0_scratch3 cc0_scratch4 cc0_scratch5) body_text

/-- The kernel over words terminates without fault, its arguments unchanged, its counters at zero. -/
theorem frame_kernel : Cert.quiescent_Kernel := fun m ρ _ => by
  have e : Cert.Kernel.defs (F := Bits) = defs (F := Bits) := congrArg (Pipeline.defs (pcfgs (F := Bits))) table_text
  rw [e]
  exact run_words m ρ

/-- The reference terminates without fault, its arguments unchanged, its counters at zero. -/
theorem frame_reference : Cert.quiescent_ReferenceIdeal := fun m ρ _ =>
  (θ_run Cert.ReferenceIdeal.defs _ _).mono (fun _ h => ⟨fun c => (h c).2, sem_eq_zero_of_no_sems (by decide) _⟩) (Cert.ReferenceIdeal.Value.run m ρ)

end Cert.KernelIdeal.Heads

end
-- ==== Proof.Ring.Head.lean ====
/-
# One head

What the body computes of one head of one batch, as a function of its operands, and the whole output by it: every head
of either batch is the same composition, at its own place of the queries and of the gathered keys and values.
-/
module

public import proofs.«01_k».proof.Proof.Ring.Compute

@[expose] public section

noncomputable section

namespace Cert.KernelIdeal.Heads

open Cert.KernelIdeal Cert.KernelIdeal.Gen

open Idealize.ShloMosaic Idealize.ShloMosaic.TcCoe

variable {F : FTy → Type} [FloatOps F]

/-- A batch's queries of all heads: the activations times the projection, rounded. -/
def queries (x : Vec F S1x512x768 .bf16) (q : Vec F S768x512 .bf16) : FVec F S512x512 .bf16 :=
  truncf .bf16 (matmul dot_S512x768_S768x512_S512x512_1_0_0_1_n_n none (shapeCast S512x768 x shapeCasts_S1x512x768_S512x768)
    (shapeCast S768x512 q shapeCasts_S768x512_S768x512) (constant S512x512 .f32 0x00000000#32)) bitsLt_bf16_f32

/-- The eight blocks of rows under one another. -/
def stack (p : Fin 8 → Vec F S1x1x1x512x64 .bf16) : FVec F S4096x64 .bf16 :=
  concatenate S4096x64 0 [⟨S512x64, shapeCast S512x64 (p 0) shapeCasts_S1x1x1x512x64_S512x64⟩, ⟨S512x64, shapeCast S512x64 (p 1) shapeCasts_S1x1x1x512x64_S512x64⟩,
    ⟨S512x64, shapeCast S512x64 (p 2) shapeCasts_S1x1x1x512x64_S512x64⟩, ⟨S512x64, shapeCast S512x64 (p 3) shapeCasts_S1x1x1x512x64_S512x64⟩,
    ⟨S512x64, shapeCast S512x64 (p 4) shapeCasts_S1x1x1x512x64_S512x64⟩, ⟨S512x64, shapeCast S512x64 (p 5) shapeCasts_S1x1x1x512x64_S512x64⟩,
    ⟨S512x64, shapeCast S512x64 (p 6) shapeCasts_S1x1x1x512x64_S512x64⟩, ⟨S512x64, shapeCast S512x64 (p 7) shapeCasts_S1x1x1x512x64_S512x64⟩]
    concatenates_S512x64_S512x64_S512x64_S512x64_S512x64_S512x64_S512x64_S512x64_S4096x64_d0

/-- The masked exponentials of a head's scores. -/
def weights (mask : IVec S512x4096 1) (q : FVec F S512x64 .bf16) (k : FVec F S4096x64 .bf16) : FVec F S512x4096 .f32 :=
  select mask (exp (mulf (matmul dot_S512x64_S4096x64_S512x4096_1_1_0_0_n_n none q k (constant S512x4096 .f32 0x00000000#32))
    (broadcast S512x4096 (Scalar.ofBits (F := F) .f32 0x3E000000#32)))) (broadcast S512x4096 (Scalar.ofBits (F := F) .f32 0x00000000#32))

/-- A head's context: the weighted values over the weights' sum. -/
def context (mask : IVec S512x4096 1) (q : FVec F S512x64 .bf16) (k v : FVec F S4096x64 .bf16) : FVec F S512x64 .bf16 :=
  truncf .bf16 (divf (matmul dot_S512x4096_S4096x64_S512x64_1_0_0_1_n_n none (truncf .bf16 (weights mask q k) bitsLt_bf16_f32) v (constant S512x64 .f32 0x00000000#32))
    (broadcastTo S512x64 (shapeCast S512x1 (multiReduction .add [1] S512 (weights mask q k) 0x00000000#32 reduces_S512x4096_S512 (.inl rfl) rfl) shapeCasts_S512_S512x1) broadcasts_S512x1_S512x64))
    bitsLt_bf16_f32

/-- The output of a batch from its heads' contexts. -/
def project (ctx : Fin 8 → FVec F S512x64 .bf16) (w : Vec F S512x768 .bf16) : Vec F S1x512x768 .f32 :=
  shapeCast S1x512x768 (matmul dot_S512x512_S512x768_S512x768_1_0_0_1_n_n none
    (concatenate S512x512 1 [⟨S512x64, ctx 0⟩, ⟨S512x64, ctx 1⟩, ⟨S512x64, ctx 2⟩, ⟨S512x64, ctx 3⟩, ⟨S512x64, ctx 4⟩, ⟨S512x64, ctx 5⟩, ⟨S512x64, ctx 6⟩, ⟨S512x64, ctx 7⟩]
      concatenates_S512x64_S512x64_S512x64_S512x64_S512x64_S512x64_S512x64_S512x64_S512x512_d1)
    (shapeCast S512x768 w shapeCasts_S512x768_S512x768) (constant S512x768 .f32 0x00000000#32)) shapeCasts_S512x768_S1x512x768

/-- One head of one batch of a slot lies within the scratch. -/
theorem slot_inb (j : Fin 8) (b : Fin 2) (h : Fin 8) :
    ∀ a, (![j.val, b.val, h.val, 0, 0] : Fin 5 → Nat) a + S1x1x1x512x64.size a ≤ S8x2x8x512x64.size a := by
  revert j b h; decide

/-- One head's columns lie within the queries. -/
theorem head_slices (h : Fin 8) : S512x512.Slices ![0, h.val * 64] S512x64 := by
  revert h; decide

/-- One batch lies within the activations and the result. -/
theorem batch_inb (b : Fin 2) : ∀ a, (![b.val, 0, 0] : Fin 3 → Nat) a + S1x512x768.size a ≤ S2x512x768.size a := by
  revert b; decide

variable (c : Dev nD)
    (x : Buf (Elt F) (xM.view.loc (c : Thread nD τ))) (q : Buf (Elt F) (qM.view.loc (c : Thread nD τ))) (w : Buf (Elt F) (wM.view.loc (c : Thread nD τ)))
    (k : Buf (Elt F) (kB.view.loc (c : Thread nD τ))) (v : Buf (Elt F) (vB.view.loc (c : Thread nD τ))) (a : BitVec 32)

/-- What the gathered keys hold at slot `j`, batch `b`, head `h`. -/
def keysAt (b : Fin 2) (h j : Fin 8) : Vec F S1x1x1x512x64 .bf16 :=
  View.readAt (Elt F) kB.view (Rect.unit (s := S8x2x8x512x64) ![j.val, b.val, h.val, 0, 0] S1x1x1x512x64.size (slot_inb j b h)).toLoadRect k

/-- What the gathered values hold at slot `j`, batch `b`, head `h`. -/
def valuesAt (b : Fin 2) (h j : Fin 8) : Vec F S1x1x1x512x64 .bf16 :=
  View.readAt (Elt F) vB.view (Rect.unit (s := S8x2x8x512x64) ![j.val, b.val, h.val, 0, 0] S1x1x1x512x64.size (slot_inb j b h)).toLoadRect v

/-- The queries of batch `b`. -/
def queriesAt (b : Fin 2) : FVec F S512x512 .bf16 :=
  queries (View.readAt (Elt F) xM.view (Rect.unit (s := S2x512x768) ![b.val, 0, 0] S1x512x768.size (batch_inb b)).toLoadRect x)
    (View.readAt (Elt F) qM.view (Rect.unit (s := S768x512) ![0, 0] S768x512.size inb_S768x512_S768x512_0_0).toLoadRect q)

/-- The context of head `h` of batch `b`. -/
def contextAt (b : Fin 2) (h : Fin 8) : FVec F S512x64 .bf16 :=
  context (computed.sl.v463 a) (extractStridedSlice S512x64 ![0, h.val * 64] (queriesAt c x q b) (head_slices h))
    (stack (keysAt c k b h)) (stack (valuesAt c v b h))

/-- The output of batch `b`. -/
def batchAt (b : Fin 2) : Vec F S1x512x768 .f32 :=
  project (contextAt c x q k v a b) (View.readAt (Elt F) wM.view (Rect.unit (s := S512x768) ![0, 0] S512x768.size inb_S512x768_S512x768_0_0).toLoadRect w)

set_option maxRecDepth 65536 in
set_option maxHeartbeats 4000000 in
/-- The body computes the two batches' outputs, each the projection of its eight heads' contexts. -/
theorem computed_eq : (computed c x q w k v a).1 = (batchAt c x q w k v a 0, batchAt c x q w k v a 1) := rfl

end Cert.KernelIdeal.Heads

end
-- ==== Proof.Ring.HeadValue.lean ====
/-
# One head over the reals

The pieces of the body's computation read at an index, over the extended reals.
-/
module

public import proofs.«01_k».proof.Proof.Ring.Head
public import proofs.«01_k».proof.Proof.Ring.Body
public import Idealize.ShloMosaic.Lib.Pointwise

@[expose] public section

noncomputable section

namespace Cert.KernelIdeal.Heads

open Cert.KernelIdeal Cert.KernelIdeal.Gen

open Idealize.ShloMosaic Idealize.ShloMosaic.TcCoe

set_option maxRecDepth 16384

/-- A query is a row of the activations against a column of the projection. -/
theorem queries_apply (x : Vec Ideal S1x512x768 .bf16) (q : Vec Ideal S768x512 .bf16) (i : Fin 512) (n : Fin 512) :
    queries x q (ix2 i n) = ∑ d : Fin 768, x (ix3 0 i d) * q (ix2 d n) := by
  pointwise [queries]

/-- A weight: the exponential of a scaled score where the mask holds, else nothing. -/
theorem weights_apply (mask : IVec S512x4096 1) (q : FVec Ideal S512x64 .bf16) (k : FVec Ideal S4096x64 .bf16) (i : Fin 512) (r : Fin 4096) :
    weights mask q k (ix2 i r)
      = if mask (ix2 i r) = 1#1 then Ideal.exp ((∑ d : Fin 64, q (ix2 i d) * k (ix2 r d)) * Ideal.ofBits .f32 0x3E000000#32) else 0 := by
  pointwise [weights]
  rfl

/-- A context: the weighted sum of the values over the sum of the weights. -/
theorem context_apply (mask : IVec S512x4096 1) (q : FVec Ideal S512x64 .bf16) (k v : FVec Ideal S4096x64 .bf16) (i : Fin 512) (d : Fin 64) :
    context mask q k v (ix2 i d)
      = Ideal.div (∑ r : Fin 4096, weights mask q k (ix2 i r) * v (ix2 r d)) (∑ r : Fin 4096, weights mask q k (ix2 i r)) := by
  pointwise [context]

/-- Two places of a family of blocks that are the same place. -/
theorem place {n : ℕ} {α : Type} (f : Fin 8 → Fin n → α) (j : Fin 8) {j' : ℕ} {u u' : ℕ} (hj' : j' < 8) (hu : u < n) (hu' : u' < n)
    (ej : j.val % 8 = j') (eu : u = u') : f j ⟨u, hu⟩ = f ⟨j', hj'⟩ ⟨u', hu'⟩ := by
  subst eu
  rw [show j = ⟨j', hj'⟩ from Fin.ext ((Nat.mod_eq_of_lt j.isLt).symm.trans ej)]

/-- A row of the stack lies in the block that its number divided by 512 names. -/
theorem stack_apply (p : Fin 8 → Vec Ideal S1x1x1x512x64 .bf16) (r : Fin 4096) (d : Fin 64) :
    stack p (ix2 r d) = p ⟨r.val / 512, by omega⟩ (ix5 0 0 0 ⟨r.val % 512, by omega⟩ d) := by
  have hr := r.isLt
  pointwise [stack]
  split_ifs
  all_goals exact place (fun j u => p j (ix5 0 0 0 u d)) _ (by omega) (by omega) (by omega) (by simp only [Fin.isValue, Fin.coe_ofNat_eq_mod]; omega) (by omega)

/-- The output of a batch: contexts of the heads side by side against the columns of the output projection. -/
theorem project_apply (ctx : Fin 8 → FVec Ideal S512x64 .bf16) (w : Vec Ideal S512x768 .bf16) (i : Fin 512) (n : Fin 768) :
    project ctx w (ix3 0 i n) = ∑ e : Fin 512, ctx ⟨e.val / 64, by omega⟩ (ix2 i ⟨e.val % 64, by omega⟩) * w (ix2 e n) := by
  pointwise [project]
  refine Finset.sum_congr rfl fun e _ => ?_
  congr 1
  have he := e.isLt
  split_ifs
  all_goals exact place (fun j u => ctx j (ix2 i u)) _ (by omega) (by omega) (by omega) (by simp only [Fin.isValue, Fin.coe_ofNat_eq_mod]; omega) (by omega)

/-- The group of a query's block, as the body computes it. -/
theorem row_word : ∀ i : Fin 512, computed.sl.v417 four (ix2 i 0) = BitVec.ofNat 32 (i.val / 64 % 4) := by
  decide +kernel

/-- The masking word of a key's row says its group. -/
theorem col_word : ∀ r : Fin 4096,
    Scalar.select (IntOp.andi (IntOp.xori (computed.sl.v450 (ix2 0 r)) (computed.sl.v452 (ix2 0 r))) (computed.sl.v448 (ix2 0 r)))
        (IntOp.addi (IntOp.remsi ArithUnit.vector (computed.sl.v442 (ix2 0 r)) (computed.sl.v445 (ix2 0 r))) 4#32)
        (IntOp.remsi ArithUnit.vector (computed.sl.v442 (ix2 0 r)) (computed.sl.v445 (ix2 0 r))) = BitVec.ofNat 32 (r.val / 64 % 4) := by
  decide +kernel

/-- A query sees the keys whose block has the number of its own block up to multiples of four. -/
theorem mask_apply (i : Fin 512) (r : Fin 4096) :
    computed.sl.v463 four (ix2 i r) = if i.val / 64 % 4 = r.val / 64 % 4 then 1#1 else 0#1 := by
  have hi := row_word i
  have hr := col_word r
  unfold computed.sl.v463
  pointwise [k0_pay12]
  rw [hi, hr]
  generalize hx : i.val / 64 % 4 = x
  generalize hy : r.val / 64 % 4 = y
  have hx4 : x < 4 := by omega
  have hy4 : y < 4 := by omega
  interval_cases x <;> interval_cases y <;> rfl

variable (c : Dev nD) (x : S2x512x768.Idx → EReal) (q : S768x512.Idx → EReal) (w : S512x768.Idx → EReal) (k v : S8x2x8x512x64.Idx → EReal)

/-- An element of one head of one batch of a slot, as an element of the scratch. -/
theorem slot_idx (b : Fin 2) (h j : Fin 8) (t : Fin 512) (d : Fin 64) :
    (Rect.unit (s := S8x2x8x512x64) ![j.val, b.val, h.val, 0, 0] S1x1x1x512x64.size (slot_inb j b h)).toLoadRect.idx (ix5 0 0 0 t d) = ix5 j b h t d := by
  funext a
  apply Fin.ext
  match a with
  | ⟨0, _⟩ => exact (by show j.val + 1 * 0 = j.val; omega)
  | ⟨1, _⟩ => exact (by show b.val + 1 * 0 = b.val; omega)
  | ⟨2, _⟩ => exact (by show h.val + 1 * 0 = h.val; omega)
  | ⟨3, _⟩ => exact (by show 0 + 1 * t.val = t.val; omega)
  | ⟨4, _⟩ => exact (by show 0 + 1 * d.val = d.val; omega)

/-- The keys read at a slot. -/
theorem keysAt_apply (b : Fin 2) (h j : Fin 8) (t : Fin 512) (d : Fin 64) :
    keysAt (F := Ideal) c k b h j (ix5 0 0 0 t d) = k (ix5 j b h t d) :=
  congrArg k (slot_idx b h j t d)

/-- The values read at a slot. -/
theorem valuesAt_apply (b : Fin 2) (h j : Fin 8) (t : Fin 512) (d : Fin 64) :
    valuesAt (F := Ideal) c v b h j (ix5 0 0 0 t d) = v (ix5 j b h t d) :=
  congrArg v (slot_idx b h j t d)

/-- The queries of a batch. -/
theorem queriesAt_apply (b : Fin 2) (i n : Fin 512) :
    queriesAt (F := Ideal) c x q b (ix2 i n) = ∑ e : Fin 768, x (ix3 b i e) * q (ix2 e n) := by
  unfold queriesAt
  rw [queries_apply]
  refine Finset.sum_congr rfl fun e _ => congrArg₂ (· * ·) (congrArg x ?_) (congrArg q ?_)
  · funext a
    apply Fin.ext
    match a with
    | ⟨0, _⟩ => exact (by show b.val + 1 * 0 = b.val; omega)
    | ⟨1, _⟩ => exact (by show 0 + 1 * i.val = i.val; omega)
    | ⟨2, _⟩ => exact (by show 0 + 1 * e.val = e.val; omega)
  · funext a
    apply Fin.ext
    match a with
    | ⟨0, _⟩ => exact (by show 0 + 1 * e.val = e.val; omega)
    | ⟨1, _⟩ => exact (by show 0 + 1 * n.val = n.val; omega)

/-- A head's slice of the queries. -/
theorem slice_apply (y : FVec Ideal S512x512 .bf16) (h : Fin 8) (i : Fin 512) (d : Fin 64) :
    extractStridedSlice S512x64 ![0, h.val * 64] y (head_slices h) (ix2 i d) = y (ix2 i ⟨h.val * 64 + d.val, by omega⟩) := by
  pointwise

/-- The weight of the key in row `r` of the gathered keys, for query `i` of head `h` of batch `b`. -/
def weightAt (b : Fin 2) (h : Fin 8) (i : Fin 512) (r : Fin 4096) : EReal :=
  if i.val / 64 % 4 = r.val / 64 % 4 then
    Ideal.exp ((∑ d : Fin 64, (∑ e : Fin 768, x (ix3 b i e) * q (ix2 e ⟨h.val * 64 + d.val, by omega⟩))
      * k (ix5 ⟨r.val / 512, by omega⟩ b h ⟨r.val % 512, by omega⟩ d)) * Ideal.ofBits .f32 0x3E000000#32)
  else 0

/-- An element of a head's context: the weighted values over the sum of the weights. -/
theorem contextAt_apply (b : Fin 2) (h : Fin 8) (i : Fin 512) (d : Fin 64) :
    contextAt (F := Ideal) c x q k v four b h (ix2 i d)
      = Ideal.div (∑ r : Fin 4096, weightAt x q k b h i r * v (ix5 ⟨r.val / 512, by omega⟩ b h ⟨r.val % 512, by omega⟩ d))
        (∑ r : Fin 4096, weightAt x q k b h i r) := by
  have hw : ∀ r : Fin 4096, weights (computed.sl.v463 four) (extractStridedSlice S512x64 ![0, h.val * 64] (queriesAt (F := Ideal) c x q b) (head_slices h))
      (stack (keysAt (F := Ideal) c k b h)) (ix2 i r) = weightAt x q k b h i r := by
    intro r
    rw [weights_apply, mask_apply]
    unfold weightAt
    simp only [slice_apply, queriesAt_apply, stack_apply, keysAt_apply]
    by_cases hm : i.val / 64 % 4 = r.val / 64 % 4
    · rw [if_pos hm, if_pos rfl, if_pos hm]
    · rw [if_neg hm, if_neg (by decide), if_neg hm]
  unfold contextAt
  rw [context_apply]
  simp only [hw, stack_apply, valuesAt_apply]

/-- A batch's output. -/
theorem batchAt_apply (b : Fin 2) (i : Fin 512) (n : Fin 768) :
    batchAt (F := Ideal) c x q w k v four b (ix3 0 i n)
      = ∑ e : Fin 512, contextAt (F := Ideal) c x q k v four b ⟨e.val / 64, by omega⟩ (ix2 i ⟨e.val % 64, by omega⟩) * w (ix2 e n) := by
  unfold batchAt
  rw [project_apply]
  refine Finset.sum_congr rfl fun e _ => congrArg₂ (· * ·) rfl (congrArg w ?_)
  funext a
  apply Fin.ext
  match a with
  | ⟨0, _⟩ => exact (by show 0 + 1 * e.val = e.val; omega)
  | ⟨1, _⟩ => exact (by show 0 + 1 * n.val = n.val; omega)

end Cert.KernelIdeal.Heads

end
-- ==== Proof.Ring.Value.lean ====
/-
# The kernel's result

What a device's result array holds after the run, in closed form over the arguments: attention over the gathered keys
and values, then the output projection.
-/
module

public import proofs.«01_k».proof.Proof.Ring.HeadValue
public import proofs.«01_k».proof.Proof.Ring.Launch

@[expose] public section

noncomputable section

namespace Cert.KernelIdeal.Heads

open Cert.KernelIdeal Cert.KernelIdeal.Gen

open Idealize.ShloMosaic Idealize.ShloMosaic.TcCoe
open Idealize.ShloMosaic.Pipeline (Dat Cfg Window)

set_option maxRecDepth 16384

section Windows

variable {F : FTy → Type} [FloatOps F] (m : (ℓ : Loc nD τ sig) → Buf (Elt F) ℓ) (c : Dev nD)

/-- The first window's block is the whole of the activations. -/
theorem iblk_x : (iblk m c 0 t0_0 : S2x512x768.Idx → Elt F .bf16) = m ((c.tc : Thread nD τ).loc main_arg0) :=
  Memref.read_access_unit_zero (Elt F) main_arg0 (off := fun a => (win0_0.index t0_0) a * main_arg0.ty.shape.size a) (funext fun a => by fin_cases a <;> rfl) (fun a => by fin_cases a <;> decide) _

/-- The second's, of the query projection. -/
theorem iblk_q : (iblk m c 1 t0_0 : S768x512.Idx → Elt F .bf16) = m ((c.tc : Thread nD τ).loc main_arg1) :=
  Memref.read_access_unit_zero (Elt F) main_arg1 (off := fun a => (win0_1.index t0_0) a * main_arg1.ty.shape.size a) (funext fun a => by fin_cases a <;> rfl) (fun a => by fin_cases a <;> decide) _

/-- The third's, of the output projection. -/
theorem iblk_w : (iblk m c 2 t0_0 : S512x768.Idx → Elt F .bf16) = m ((c.tc : Thread nD τ).loc main_arg4) :=
  Memref.read_access_unit_zero (Elt F) main_arg4 (off := fun a => (win0_2.index t0_0) a * main_arg4.ty.shape.size a) (funext fun a => by fin_cases a <;> rfl) (fun a => by fin_cases a <;> decide) _

/-- The fourth's, of the device's keys. -/
theorem iblk_k : (iblk m c 3 t0_0 : S2x512x8x64.Idx → Elt F .bf16) = m ((c.tc : Thread nD τ).loc main_arg2) :=
  Memref.read_access_unit_zero (Elt F) main_arg2 (off := fun a => (win0_3.index t0_0) a * main_arg2.ty.shape.size a) (funext fun a => by fin_cases a <;> rfl) (fun a => by fin_cases a <;> decide) _

/-- The fifth's, of its values. -/
theorem iblk_v : (iblk m c 4 t0_0 : S2x512x8x64.Idx → Elt F .bf16) = m ((c.tc : Thread nD τ).loc main_arg3) :=
  Memref.read_access_unit_zero (Elt F) main_arg3 (off := fun a => (win0_4.index t0_0) a * main_arg3.ty.shape.size a) (funext fun a => by fin_cases a <;> rfl) (fun a => by fin_cases a <;> decide) _

/-- The result array holds in the end what the body left in its staging buffer. -/
theorem final_out : (finalA m c 5 : S2x512x768.Idx → Elt F .f32) = outAt m c := by
  have h : ((cfg0.win 5).blk t0_0).view.read (Elt F) (finalA m c 5) = outAt m c := by
    unfold finalA
    rw [show cfg0.N = (t0_0 : Fin cfg0.N).val + 1 from rfl, (dats m 0 c).arrAt_succ 5 t0_0, if_pos (flush0_5 t0_0)]
    exact View.read_write_univ _ _
  refine Eq.trans (Eq.symm ?_) h
  exact Memref.read_access_unit_zero (Elt F) main_v1 (off := fun a => (win0_5.index t0_0) a * main_v1.ty.shape.size a) (funext fun a => by fin_cases a <;> rfl) (fun a => by fin_cases a <;> decide) _

end Windows

variable (m : (ℓ : Loc nD τ sig) → Buf (Elt Ideal) ℓ) (c : Dev nD)

/-- The keys gathered on device `c`, from the blocks of the devices. -/
theorem full_keys (j : Fin 8) (b : Fin 2) (h : Fin 8) (t : Fin 512) (d : Fin 64) :
    (full m false c : S8x2x8x512x64.Idx → EReal) (ix5 j b h t d)
      = (m (((back c j).tc : Thread nD τ).loc main_arg2) : S2x512x8x64.Idx → EReal) (ix4 b t h d) :=
  congrFun (iblk_k m (back c j)) (ix4 b t h d)

/-- The values gathered on device `c`. -/
theorem full_values (j : Fin 8) (b : Fin 2) (h : Fin 8) (t : Fin 512) (d : Fin 64) :
    (full m true c : S8x2x8x512x64.Idx → EReal) (ix5 j b h t d)
      = (m (((back c j).tc : Thread nD τ).loc main_arg3) : S2x512x8x64.Idx → EReal) (ix4 b t h d) :=
  congrFun (iblk_v m (back c j)) (ix4 b t h d)

/-- A row of the result array of device `c`. -/
theorem outAt_apply (b : Fin 2) (i : Fin 512) (n : Fin 768) :
    (outAt m c : S2x512x768.Idx → EReal) (ix3 b i n)
      = batchAt (F := Ideal) c (m ((c.tc : Thread nD τ).loc main_arg0)) (m ((c.tc : Thread nD τ).loc main_arg1)) (m ((c.tc : Thread nD τ).loc main_arg4))
          (full m false c) (full m true c) four b (ix3 0 i n) := by
  unfold outAt batches
  rw [computed_eq, iblk_x, iblk_q, iblk_w]
  match b with
  | 0 => rfl
  | 1 => rfl

/-- The place in the whole array of row `r` of what device `c` gathers. -/
def src (c : Dev nD) (r : Fin 4096) : Fin 4096 :=
  ⟨(back c ⟨r.val / 512, by omega⟩).val * 512 + r.val % 512, by
    have : (back c ⟨r.val / 512, by omega⟩).val < 8 := (back c ⟨r.val / 512, by omega⟩).isLt
    omega⟩

/-- Every row of the whole array is gathered once. -/
theorem src_bijective (c : Dev nD) : Function.Bijective (src c) := by
  refine Finite.injective_iff_bijective.mp fun r r' h => ?_
  have h' : (c.val + (8 - r.val / 512)) % 8 * 512 + r.val % 512 = (c.val + (8 - r'.val / 512)) % 8 * 512 + r'.val % 512 := congrArg Fin.val h
  have hc : c.val < 8 := c.isLt
  apply Fin.ext
  omega

/-- The rows keep the group of their block. -/
theorem src_group (c : Dev nD) (r : Fin 4096) : (src c r).val / 64 % 4 = r.val / 64 % 4 := by
  show ((back c ⟨r.val / 512, by omega⟩).val * 512 + r.val % 512) / 64 % 4 = r.val / 64 % 4
  omega

/-- A block's element is the whole array's, at its place. -/
theorem block_src (X : (⟨4, ![2, 4096, 8, 64]⟩ : Shape).Idx → EReal) (hT) (c : Dev nD) (b : Fin 2) (r : Fin 4096) (h : Fin 8) (d : Fin 64) :
    Layout.block ⟨4, ![2, 512, 8, 64]⟩ ⟨4, ![2, 4096, 8, 64]⟩ 1 8 (back c ⟨r.val / 512, by omega⟩) X hT (ix4 b ⟨r.val % 512, by omega⟩ h d) = X (ix4 b (src c r) h d) := by
  rw [Layout.block_apply]
  congr 1
  funext a
  apply Fin.ext
  match a with
  | ⟨0, _⟩ => rfl
  | ⟨1, _⟩ => rfl
  | ⟨2, _⟩ => rfl
  | ⟨3, _⟩ => rfl

end Cert.KernelIdeal.Heads

end
-- ==== Proof.Ring.Reference.lean ====
/-
# The reference in pieces

The reference's result as the composition of its steps, each named, and each read at an index over the extended reals.
-/
module

public import proofs.«01_k».proof.Proof.Gen.ReferenceIdeal.Run
public import Idealize.ShloMosaic.Lib.Pointwise

@[expose] public section

noncomputable section

namespace Cert.ReferenceIdeal.Heads

open Cert.ReferenceIdeal Cert.ReferenceIdeal.Gen

open Idealize.ShloMosaic Idealize.ShloMosaic.TcCoe

variable {F : FTy → Type} [FloatOps F]

/-- The numbers of the positions' blocks of 64: `n // 64` as it is printed. -/
def blocks (n : ℕ) (hb : S_.BroadcastsInDim (⟨1, ![n]⟩ : Shape) (![] : Fin 0 → Fin 1)) : IVec ⟨1, ![n]⟩ 32 :=
  select (andi (cmpi .ne (signi (iotaInDim ⟨1, ![n]⟩ 32 0)) (broadcastInDim ⟨1, ![n]⟩ ![] hb (signi (id (constantI S_ 32 64#32)))))
      (cmpi .ne (Host.remsi (iotaInDim ⟨1, ![n]⟩ 32 0) (broadcastInDim ⟨1, ![n]⟩ ![] hb (id (constantI S_ 32 64#32)))) (broadcastInDim ⟨1, ![n]⟩ ![] hb (constantI S_ 32 0#32))))
    (subi (Host.divsi (iotaInDim ⟨1, ![n]⟩ 32 0) (broadcastInDim ⟨1, ![n]⟩ ![] hb (id (constantI S_ 32 64#32)))) (broadcastInDim ⟨1, ![n]⟩ ![] hb (constantI S_ 32 1#32)))
    (Host.divsi (iotaInDim ⟨1, ![n]⟩ 32 0) (broadcastInDim ⟨1, ![n]⟩ ![] hb (id (constantI S_ 32 64#32))))

/-- The word four, as the remainder by it is printed. -/
def four : IVec S_ 32 := select (cmpi .eq (id (constantI S_ 32 4#32)) (constantI S_ 32 0#32)) (constantI S_ 32 1#32) (id (constantI S_ 32 4#32))

/-- The remainder by four, as it is printed. -/
def modFour (s : Shape) (hb : S_.BroadcastsInDim s (![] : Fin 0 → Fin s.rank)) (y : IVec s 32) : IVec s 32 :=
  select (andi (cmpi .ne (cmpi .slt (Host.remsi y (broadcastInDim s ![] hb four)) (broadcastInDim s ![] hb (constantI S_ 32 0#32)))
        (broadcastInDim s ![] hb (cmpi .slt four (constantI S_ 32 0#32))))
      (cmpi .ne (Host.remsi y (broadcastInDim s ![] hb four)) (broadcastInDim s ![] hb (constantI S_ 32 0#32))))
    (addi (Host.remsi y (broadcastInDim s ![] hb four)) (broadcastInDim s ![] hb four)) (Host.remsi y (broadcastInDim s ![] hb four))

/-- The blocks of the queries, one a row. -/
def rowBlocks : IVec S512x1 32 := broadcastInDim S512x1 ![0] bcast_S512_S512x1_0 (blocks 512 bcast_S_S512)

/-- The blocks of the keys, one a column. -/
def colBlocks : IVec S1x4096 32 := broadcastInDim S1x4096 ![1] bcast_S4096_S1x4096_1 (blocks 4096 bcast_S_S4096)

/-- Which key a query sees. -/
def seen : IVec S512x4096 1 :=
  ori (cmpi .eq (broadcastInDim S512x4096 ![0, 1] bcast_S512x1_S512x4096_0_1 rowBlocks) (broadcastInDim S512x4096 ![0, 1] bcast_S1x4096_S512x4096_0_1 colBlocks))
    (cmpi .eq (broadcastInDim S512x4096 ![0, 1] bcast_S1x4096_S512x4096_0_1 (modFour S1x4096 bcast_S_S1x4096 colBlocks))
      (broadcastInDim S512x4096 ![0, 1] bcast_S512x1_S512x4096_0_1 (modFour S512x1 bcast_S_S512x1 rowBlocks)))

/-- Which query sees a key at all. -/
def anySeen (u : IVec S512x4096 1) : IVec S1x1x512x1 1 :=
  broadcastInDim S1x1x512x1 ![2] bcast_S512_S1x1x512x1_2 (Host.reduce IntOp.ori u (constantI S_ 1 0#1) reducesTo_S512x4096_S512_d1 h_S_)

/-- The masked scores. -/
def scores (u : IVec S512x4096 1) (x : FVec F S2x512x768 .bf16) (q : FVec F S768x512 .bf16) (k : FVec F S2x4096x8x64 .bf16) : FVec F S2x8x512x4096 .f32 :=
  select (broadcastInDim S2x8x512x4096 ![0, 1, 2, 3] bcast_S1x1x512x4096_S2x8x512x4096_0_1_2_3 (broadcastInDim S1x1x512x4096 ![2, 3] bcast_S512x4096_S1x1x512x4096_2_3 u))
    (mulf (Host.dotGeneral dot_S2x512x8x64_S2x4096x8x64_S2x8x512x4096_3_3_1_1_02_02 none
        (shapeCast _ (Host.dotGeneral dot_S2x512x768_S768x512_S2x512x512_2_0_01_1_n_n none (extf .f32 x bitsLt_bf16_f32) (extf .f32 q bitsLt_bf16_f32)) shapeCasts_S2x512x512_S2x512x8x64)
        (extf .f32 k bitsLt_bf16_f32)) (broadcastInDim S2x8x512x4096 ![] bcast_S_S2x8x512x4096 (constant S_ .f32 0x3E000000#32)))
    (broadcastInDim S2x8x512x4096 ![] bcast_S_S2x8x512x4096 (id (constant S_ .f32 0xFF800000#32)))

/-- The exponentials of the scores less their row's greatest. -/
def expd (s : FVec F S2x8x512x4096 .f32) : FVec F S2x8x512x4096 .f32 :=
  Host.exp (subf s (broadcastInDim S2x8x512x4096 ![0, 1, 2, 3] bcast_S2x8x512x1_S2x8x512x4096_0_1_2_3
    (broadcastInDim S2x8x512x1 ![0, 1, 2] bcast_S2x8x512_S2x8x512x1_0_1_2
      (Host.reduce FloatOps.maximumf s (constant S_ .f32 0xFF800000#32) reducesTo_S2x8x512x4096_S2x8x512_d3 h_S_))))

/-- The exponentials over their row's sum. -/
def shares (u : IVec S512x4096 1) (e : FVec F S2x8x512x4096 .f32) : FVec F S2x8x512x4096 .f32 :=
  select (broadcastInDim S2x8x512x4096 ![0, 1, 2, 3] bcast_S1x1x512x1_S2x8x512x4096_0_1_2_3 (anySeen u))
    (Host.divf e (broadcastInDim S2x8x512x4096 ![0, 1, 2, 3] bcast_S2x8x512x1_S2x8x512x4096_0_1_2_3
      (select (broadcastInDim S2x8x512x1 ![0, 1, 2, 3] bcast_S1x1x512x1_S2x8x512x1_0_1_2_3 (anySeen u))
        (broadcastInDim S2x8x512x1 ![0, 1, 2] bcast_S2x8x512_S2x8x512x1_0_1_2
          (Host.reduceAdd e (constant S_ .f32 0x00000000#32) reducesTo_S2x8x512x4096_S2x8x512_d3 h_S_))
        (broadcastInDim S2x8x512x1 ![] bcast_S_S2x8x512x1 (id (constant S_ .f32 0x3F800000#32))))))
    (broadcastInDim S2x8x512x4096 ![] bcast_S_S2x8x512x4096 (id (constant S_ .f32 0x00000000#32)))

/-- The output from the shares. -/
def output (p : FVec F S2x8x512x4096 .f32) (v : FVec F S2x4096x8x64 .bf16) (w : FVec F S512x768 .bf16) : FVec F S2x512x768 .f32 :=
  Host.dotGeneral dot_S2x512x512_S512x768_S2x512x768_2_0_01_1_n_n none
    (shapeCast _ (transpose S2x512x8x64 [0, 3, 1, 2]
      (Host.dotGeneral dot_S2x4096x8x64_S2x8x512x4096_S2x8x64x512_1_3_3_2_02_01 none (extf .f32 v bitsLt_bf16_f32) p)
      transposes_S2x8x64x512_S2x512x8x64_0_3_1_2) shapeCasts_S2x512x8x64_S2x512x512) (extf .f32 w bitsLt_bf16_f32)

set_option maxRecDepth 16384

/-- The word of a query's block. -/
theorem row_word : ∀ i : Fin 512, rowBlocks (ix2 i 0) = BitVec.ofNat 32 (i.val / 64) := by decide +kernel

/-- The word of a key's block. -/
theorem col_word : ∀ r : Fin 4096, colBlocks (ix2 0 r) = BitVec.ofNat 32 (r.val / 64) := by decide +kernel

/-- The group of a query's row, as a word. -/
theorem row_four (i : Fin 512) : modFour S512x1 bcast_S_S512x1 rowBlocks (ix2 i 0) = BitVec.ofNat 32 (i.val / 64 % 4) := by
  have h := row_word i
  have hy : i.val / 64 < 8 := by omega
  pointwise [modFour, four]
  rw [h]
  generalize i.val / 64 = y at hy
  interval_cases y <;> rfl

/-- The group of a key's row, as a word. -/
theorem col_four (r : Fin 4096) : modFour S1x4096 bcast_S_S1x4096 colBlocks (ix2 0 r) = BitVec.ofNat 32 (r.val / 64 % 4) := by
  have h := col_word r
  have hy : r.val / 64 < 64 := by omega
  pointwise [modFour, four]
  rw [h]
  generalize r.val / 64 = y at hy
  interval_cases y <;> rfl

/-- A query's block and a key's are the same or in one group exactly when they are in one group. -/
theorem same_or_four : ∀ (x : Fin 8) (y : Fin 64),
    IntOp.ori (IntOp.cmpi CmpIPredicate.eq (BitVec.ofNat 32 x.val) (BitVec.ofNat 32 y.val)) (IntOp.cmpi CmpIPredicate.eq (BitVec.ofNat 32 (y.val % 4)) (BitVec.ofNat 32 (x.val % 4)))
      = if x.val % 4 = y.val % 4 then 1#1 else 0#1 := by decide +kernel

/-- A query sees the keys whose block has the number of its own block up to multiples of four. -/
theorem seen_apply (i : Fin 512) (r : Fin 4096) :
    seen (ix2 i r) = if i.val / 64 % 4 = r.val / 64 % 4 then 1#1 else 0#1 := by
  have h1 := row_word i
  have h2 := col_word r
  have h3 := row_four i
  have h4 := col_four r
  pointwise [seen]
  rw [h1, h2, h3, h4]
  exact same_or_four ⟨i.val / 64, by omega⟩ ⟨r.val / 64, by omega⟩

/-- The `or` of bits one of which is set is set. -/
theorem fold_or {n : ℕ} [Std.Commutative (IntOp.ori : BitVec 1 → BitVec 1 → BitVec 1)] [Std.Associative (IntOp.ori : BitVec 1 → BitVec 1 → BitVec 1)]
    (f : Fin n → BitVec 1) (i : Fin n) (h : f i = 1#1) : Finset.fold IntOp.ori 0#1 f Finset.univ = 1#1 := by
  rw [← Finset.insert_erase (Finset.mem_univ i), Finset.fold_insert (Finset.notMem_erase _ _), h]
  generalize Finset.fold (IntOp.ori : BitVec 1 → BitVec 1 → BitVec 1) 0#1 f _ = y
  revert y; decide

/-- Every query sees a key. -/
theorem anySeen_apply (i : Fin 512) : anySeen seen (ix4 0 0 i 0) = 1#1 := by
  have h : seen (ix2 i ⟨i.val, by omega⟩) = 1#1 := by rw [seen_apply]; exact if_pos rfl
  pointwise [anySeen]
  exact fold_or (fun r => seen (ix2 i r)) ⟨i.val, by omega⟩ h

/-- The masked scores. -/
theorem scores_apply (x : FVec Ideal S2x512x768 .bf16) (q : FVec Ideal S768x512 .bf16) (k : FVec Ideal S2x4096x8x64 .bf16)
    (b : Fin 2) (h : Fin 8) (i : Fin 512) (r : Fin 4096) :
    scores seen x q k (ix4 b h i r) = if i.val / 64 % 4 = r.val / 64 % 4 then
      (∑ d : Fin 64, (∑ e : Fin 768, x (ix3 b i e) * q (ix2 e ⟨h.val * 64 + d.val, by omega⟩)) * k (ix4 b r h d)) * Ideal.ofBits .f32 0x3E000000#32
      else ⊥ := by
  have hs := seen_apply i r
  pointwise [scores]
  rw [hs]
  by_cases hm : i.val / 64 % 4 = r.val / 64 % 4
  · rw [if_pos hm, if_pos hm]; rfl
  · rw [if_neg hm, if_neg hm]
    show Ideal.ofBits .f32 0xFF800000#32 = ⊥
    simp [Ideal.ofBits, Ideal.ieee]

/-- The exponential of a score less the greatest of its row. -/
theorem expd_apply (s : FVec Ideal S2x8x512x4096 .f32) (b : Fin 2) (h : Fin 8) (i : Fin 512) (r : Fin 4096) :
    expd s (ix4 b h i r) = Ideal.exp (s (ix4 b h i r) - Finset.fold max ⊥ (fun r' : Fin 4096 => s (ix4 b h i r')) Finset.univ) := by
  have hb : Ideal.ofBits .f32 0xFF800000#32 = ⊥ := by simp [Ideal.ofBits, Ideal.ieee]
  pointwise [expd]
  rw [hb]

/-- An exponential over its row's sum. -/
theorem shares_apply (e : FVec Ideal S2x8x512x4096 .f32) (b : Fin 2) (h : Fin 8) (i : Fin 512) (r : Fin 4096) :
    shares seen e (ix4 b h i r) = Ideal.div (e (ix4 b h i r)) (∑ r' : Fin 4096, e (ix4 b h i r')) := by
  have ha := anySeen_apply i
  pointwise [shares]
  rw [ha]
  rfl

/-- The output: the shares against the values, head by head, against the columns of the output projection. -/
theorem output_apply (p : FVec Ideal S2x8x512x4096 .f32) (v : FVec Ideal S2x4096x8x64 .bf16) (w : FVec Ideal S512x768 .bf16) (b : Fin 2) (i : Fin 512) (n : Fin 768) :
    output p v w (ix3 b i n) = ∑ e : Fin 512, (∑ r : Fin 4096, v (ix4 b r ⟨e.val / 64, by omega⟩ ⟨e.val % 64, by omega⟩) * p (ix4 b ⟨e.val / 64, by omega⟩ i r)) * w (ix2 e n) := by
  pointwise [output]

end Cert.ReferenceIdeal.Heads

end
-- ==== Proof.Ring.Softmax.lean ====
/-
# Shares of a masked row

Over the extended reals: the exponentials of real scores where a mask holds, weighted sums of values over them, with the
greatest score taken off first or not.
-/
module

public import Idealize.ShloMosaic.PureOps.Ideal

@[expose] public section

noncomputable section

namespace Cert.Softmax

open Idealize.ShloMosaic

/-- A value that is a real number. -/
def IsReal (x : EReal) : Prop := ∃ r : ℝ, x = r

/-- A product of real numbers is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A sum of real numbers, taken in the extended reals, is the real sum. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A sum of real numbers is real. -/
theorem IsReal.sum {ι : Type} [Fintype ι] {f : ι → EReal} (h : ∀ i, IsReal (f i)) : IsReal (∑ i, f i) := by
  choose g hg using h
  exact ⟨∑ i, g i, by rw [← coe_sum]; exact Finset.sum_congr rfl fun i _ => hg i⟩

/-- A real factor that is not negative goes into a sum of extended reals. -/
theorem sum_mul_real {ι : Type} (s : Finset ι) (f : ι → EReal) {a : ℝ} (ha : 0 ≤ a) : (∑ i ∈ s, f i) * (a : EReal) = ∑ i ∈ s, f i * (a : EReal) := by
  classical
  induction s using Finset.induction_on with
  | empty => simp
  | insert b s hb ih =>
    rw [Finset.sum_insert hb, Finset.sum_insert hb, ← ih, mul_comm, EReal.left_distrib_of_nonneg_of_ne_top (EReal.coe_nonneg.mpr ha) (EReal.coe_ne_top a), mul_comm (a : EReal), mul_comm (a : EReal)]

/-- Division by a real other than zero. -/
theorem div_real (x : EReal) {a : ℝ} (ha : a ≠ 0) : Ideal.div x a = x * ((a⁻¹ : ℝ) : EReal) := by
  unfold Ideal.div
  rw [if_neg (by exact_mod_cast ha), EReal.coe_inv]

variable {ι : Type} [Fintype ι] (P : ι → Prop) [DecidablePred P] (s : ι → ℝ)

/-- The greatest of a masked row of reals that is not masked throughout is a real. -/
theorem max_real (r₀ : ι) (h₀ : P r₀) : ∃ μ : ℝ, Finset.fold max ⊥ (fun r => if P r then (s r : EReal) else ⊥) Finset.univ = μ := by
  set M := Finset.fold max ⊥ (fun r => if P r then (s r : EReal) else ⊥) Finset.univ with hM
  have hb : M ≠ ⊥ := by
    intro h
    have := (Finset.fold_max_le (⊥ : EReal)).mp (le_of_eq h) |>.2 r₀ (Finset.mem_univ _)
    rw [if_pos h₀] at this
    exact absurd (le_bot_iff.mp this) (EReal.coe_ne_bot _)
  have ht : M < ⊤ := by
    rw [hM, Finset.fold_max_lt]
    refine ⟨bot_lt_top, fun r _ => ?_⟩
    by_cases h : P r
    · rw [if_pos h]; exact EReal.coe_lt_top _
    · rw [if_neg h]; exact bot_lt_top
  exact ⟨M.toReal, (EReal.coe_toReal ht.ne hb).symm⟩

/-- The unnormalised weight of a place. -/
def wt (r : ι) : ℝ := if P r then Real.exp (s r) else 0

/-- The weights of a query that sees some key have a positive sum. -/
theorem wt_sum_pos (r₀ : ι) (h₀ : P r₀) : 0 < ∑ r, wt P s r := by
  refine Finset.sum_pos' (fun r _ => ?_) ⟨r₀, Finset.mem_univ _, ?_⟩
  · unfold wt; split_ifs
    · exact (Real.exp_pos _).le
    · exact le_rfl
  · unfold wt; rw [if_pos h₀]; exact Real.exp_pos _

/-- The share of a place, the greatest score taken off first, is its weight over the sum of the weights. -/
theorem share_eq (r₀ : ι) (h₀ : P r₀) (e : ι → EReal)
    (he : ∀ r, e r = Ideal.exp ((if P r then (s r : EReal) else ⊥) - Finset.fold max ⊥ (fun r => if P r then (s r : EReal) else ⊥) Finset.univ)) (r : ι) :
    Ideal.div (e r) (∑ r', e r') = ((wt P s r * (∑ r', wt P s r')⁻¹ : ℝ) : EReal) := by
  obtain ⟨μ, hμ⟩ := max_real P s r₀ h₀
  have h1 : ∀ r, e r = ((wt P s r * Real.exp (-μ) : ℝ) : EReal) := by
    intro r
    rw [he, hμ]
    unfold wt
    by_cases h : P r
    · rw [if_pos h, if_pos h, ← EReal.coe_sub, Ideal.exp_coe, ← Real.exp_add, sub_eq_add_neg]
    · rw [if_neg h, if_neg h, zero_mul, EReal.bot_sub]; rfl
  have hp := wt_sum_pos P s r₀ h₀
  have hs : ∑ r', e r' = (((∑ r', wt P s r') * Real.exp (-μ) : ℝ) : EReal) := by
    rw [Finset.sum_mul, ← coe_sum]
    exact Finset.sum_congr rfl fun r _ => h1 r
  have hz : (∑ r', wt P s r') * Real.exp (-μ) ≠ 0 := (mul_pos hp (Real.exp_pos _)).ne'
  rw [hs, div_real _ hz, h1, ← EReal.coe_mul]
  congr 1
  have := (Real.exp_pos (-μ)).ne'
  field_simp

/-- The weighted sum of the values over the sum of the weights is the sum of the values by their shares. -/
theorem context_eq (r₀ : ι) (h₀ : P r₀) (v : ι → EReal) (w : ι → EReal) (hw : ∀ r, w r = if P r then Ideal.exp (s r) else 0) :
    Ideal.div (∑ r, w r * v r) (∑ r, w r) = ∑ r, v r * ((wt P s r * (∑ r', wt P s r')⁻¹ : ℝ) : EReal) := by
  have hp := wt_sum_pos P s r₀ h₀
  have h1 : ∀ r, w r = (wt P s r : EReal) := by
    intro r
    rw [hw]; unfold wt
    by_cases h : P r
    · rw [if_pos h, if_pos h, Ideal.exp_coe]
    · rw [if_neg h, if_neg h]; rfl
  have hs : ∑ r, w r = ((∑ r, wt P s r : ℝ) : EReal) := by
    rw [← coe_sum]; exact Finset.sum_congr rfl fun r _ => h1 r
  rw [hs, div_real _ hp.ne', sum_mul_real _ _ (inv_pos.mpr hp).le]
  refine Finset.sum_congr rfl fun r _ => ?_
  rw [h1, EReal.coe_mul, mul_comm (wt P s r : EReal), mul_assoc]

end Cert.Softmax

end
-- ==== Proof.Ring.Equation.lean ====
/-
# The kernel's result is the reference's

Both are attention of every query over the keys of its group, then the output projection. The kernel sums the keys in
the order in which they came around the ring and takes no maximum off the scores; with real scores neither matters.
-/
module

public import proofs.«01_k».proof.Proof.Ring.Value
public import proofs.«01_k».proof.Proof.Ring.Reference
public import proofs.«01_k».proof.Proof.Ring.Softmax

@[expose] public section

noncomputable section

namespace Cert.Attention

open Idealize.ShloMosaic Idealize.ShloMosaic.TcCoe
open Cert.Softmax

variable (x : (⟨3, ![2, 512, 768]⟩ : Shape).Idx → EReal) (q : (⟨2, ![768, 512]⟩ : Shape).Idx → EReal)
    (k v : (⟨4, ![2, 4096, 8, 64]⟩ : Shape).Idx → EReal) (w : (⟨2, ![512, 768]⟩ : Shape).Idx → EReal)

/-- A scaled score. -/
def score (b : Fin 2) (h : Fin 8) (i : Fin 512) (r : Fin 4096) : EReal :=
  (∑ d : Fin 64, (∑ e : Fin 768, x (ix3 b i e) * q (ix2 e ⟨h.val * 64 + d.val, by omega⟩)) * k (ix4 b r h d)) * Ideal.ofBits .f32 0x3E000000#32

/-- The keys that a query sees. -/
abbrev sees (i : Fin 512) (r : Fin 4096) : Prop := i.val / 64 % 4 = r.val / 64 % 4

/-- The scale is a real number. -/
theorem scale_real : IsReal (Ideal.ofBits .f32 0x3E000000#32) := by
  simp only [Ideal.ofBits, Ideal.ieee]
  exact ⟨_, rfl⟩

/-- Real activations, projection and keys have real scores. -/
theorem score_real (hx : ∀ j, IsReal (x j)) (hq : ∀ j, IsReal (q j)) (hk : ∀ j, IsReal (k j)) (b : Fin 2) (h : Fin 8) (i : Fin 512) (r : Fin 4096) :
    IsReal (score x q k b h i r) :=
  (IsReal.sum fun d => (IsReal.sum fun e => (hx _).mul (hq _)).mul (hk _)).mul scale_real

/-- A head's context: the weighted values over the sum of the weights. -/
def context (b : Fin 2) (h : Fin 8) (i : Fin 512) (d : Fin 64) : EReal :=
  Ideal.div (∑ r : Fin 4096, (if sees i r then Ideal.exp (score x q k b h i r) else 0) * v (ix4 b r h d))
    (∑ r : Fin 4096, if sees i r then Ideal.exp (score x q k b h i r) else 0)

/-- The result at an index. -/
def result (b : Fin 2) (i : Fin 512) (n : Fin 768) : EReal :=
  ∑ e : Fin 512, context x q k v b ⟨e.val / 64, by omega⟩ i ⟨e.val % 64, by omega⟩ * w (ix2 e n)

open Cert.ReferenceIdeal.Heads in
/-- The reference computes it. -/
theorem reference_eq (hx : ∀ j, IsReal (x j)) (hq : ∀ j, IsReal (q j)) (hk : ∀ j, IsReal (k j)) (b : Fin 2) (i : Fin 512) (n : Fin 768) :
    output (F := Ideal) (shares seen (expd (scores (F := Ideal) seen x q k))) v w (ix3 b i n) = result x q k v w b i n := by
  rw [output_apply]
  unfold result
  refine Finset.sum_congr rfl fun e _ => congrArg (· * w (ix2 e n)) ?_
  generalize (⟨e.val / 64, by omega⟩ : Fin 8) = h
  generalize (⟨e.val % 64, by omega⟩ : Fin 64) = d
  choose s hs using fun r => score_real x q k hx hq hk b h i r
  have h₀ : sees i ⟨i.val, by omega⟩ := rfl
  unfold context
  rw [context_eq (sees i) s _ h₀ (fun r => v (ix4 b r h d)) (fun r => if sees i r then Ideal.exp (score x q k b h i r) else 0) (fun r => by rw [hs])]
  refine Finset.sum_congr rfl fun r _ => congrArg (v (ix4 b r h d) * ·) ?_
  rw [shares_apply]
  refine share_eq (sees i) s _ h₀ (fun r => expd (scores (F := Ideal) seen x q k) (ix4 b h i r)) (fun r => ?_) r
  have hsc : ∀ r, scores (F := Ideal) seen x q k (ix4 b h i r) = if sees i r then (s r : EReal) else ⊥ := by
    intro r
    rw [scores_apply, ← hs]
    rfl
  rw [expd_apply, hsc]
  simp only [hsc]

open Cert.KernelIdeal Cert.KernelIdeal.Heads in
/-- So does the kernel, on every device. -/
theorem kernel_eq (m : (ℓ : Loc nD τ sig) → Buf (Elt Ideal) ℓ) (c : Dev nD) (hT)
    (h0 : m ((c.tc : Thread nD τ).loc main_arg0) = x) (h1 : m ((c.tc : Thread nD τ).loc main_arg1) = q)
    (h2 : ∀ c : Dev nD, m ((c.tc : Thread nD τ).loc main_arg2) = Layout.block ⟨4, ![2, 512, 8, 64]⟩ ⟨4, ![2, 4096, 8, 64]⟩ 1 8 c k hT)
    (h3 : ∀ c : Dev nD, m ((c.tc : Thread nD τ).loc main_arg3) = Layout.block ⟨4, ![2, 512, 8, 64]⟩ ⟨4, ![2, 4096, 8, 64]⟩ 1 8 c v hT)
    (h4 : m ((c.tc : Thread nD τ).loc main_arg4) = w) (b : Fin 2) (i : Fin 512) (n : Fin 768) :
    (outAt m c : S2x512x768.Idx → EReal) (ix3 b i n) = result x q k v w b i n := by
  rw [outAt_apply, h0, h1, h4, batchAt_apply]
  unfold result
  show @Eq EReal _ _
  refine Finset.sum_congr rfl fun e _ => congrArg (· * w (ix2 e n)) ?_
  generalize (⟨e.val / 64, by omega⟩ : Fin 8) = h
  generalize (⟨e.val % 64, by omega⟩ : Fin 64) = d
  rw [contextAt_apply]
  have hk : ∀ (r : Fin 4096) (d : Fin 64), (full m false c : S8x2x8x512x64.Idx → EReal) (ix5 ⟨r.val / 512, by omega⟩ b h ⟨r.val % 512, by omega⟩ d) = k (ix4 b (src c r) h d) := by
    intro r d
    rw [full_keys, h2]
    exact block_src k hT c b r h d
  have hv : ∀ r : Fin 4096, (full m true c : S8x2x8x512x64.Idx → EReal) (ix5 ⟨r.val / 512, by omega⟩ b h ⟨r.val % 512, by omega⟩ d) = v (ix4 b (src c r) h d) := by
    intro r
    rw [full_values, h3]
    exact block_src v hT c b r h d
  have hw : ∀ r : Fin 4096, weightAt x q (full m false c) b h i r = if sees i (src c r) then Ideal.exp (score x q k b h i (src c r)) else 0 := by
    intro r
    unfold weightAt score sees
    rw [src_group]
    simp only [hk]
  simp only [hw, hv]
  unfold context
  rw [(src_bijective c).sum_comp (fun r => (if sees i r then Ideal.exp (score x q k b h i r) else 0) * v (ix4 b r h d)),
    (src_bijective c).sum_comp (fun r => if sees i r then Ideal.exp (score x q k b h i r) else 0)]

end Cert.Attention

end
-- ==== Proof.Ring.Finite.lean ====
/-
# What the precondition says

`finite` compares the absolute value of every element of the activations, the query projection and the keys to infinity.
So all of them are real numbers.
-/
module

public import proofs.«01_k».proof.Proof.Ring.Softmax
public import proofs.«01_k».proof.Proof.Ring.Value
public import proofs.«01_k».proof.Defs
public import Idealize.ShloMosaic.Lib.ReduceAll

@[expose] public section

noncomputable section

namespace Cert.Attention

open Idealize.ShloMosaic Idealize.ShloMosaic.TcCoe
open Cert.Softmax

/-- The side conditions of the precondition on a device's blocks. -/
theorem facts_blocks : Cert.Pre_finite_KernelIdeal.Facts where
  bitsLt_bf16_f32 := by decide
  bcast_S_S2x512x768 := by decide
  reducesTo_S2x512x768_S_d0_1_2 := by decide
  h_S_ := by decide
  bcast_S_S768x512 := by decide
  reducesTo_S768x512_S_d0_1 := by decide
  bcast_S_S2x512x8x64 := by decide
  reducesTo_S2x512x8x64_S_d0_1_2_3 := by decide

/-- The side conditions of the precondition on the whole arrays. -/
theorem facts_whole : Cert.Pre_finite_ReferenceIdeal.Facts where
  bitsLt_bf16_f32 := by decide
  bcast_S_S2x512x768 := by decide
  reducesTo_S2x512x768_S_d0_1_2 := by decide
  h_S_ := by decide
  bcast_S_S768x512 := by decide
  reducesTo_S768x512_S_d0_1 := by decide
  bcast_S_S2x4096x8x64 := by decide
  reducesTo_S2x4096x8x64_S_d0_1_2_3 := by decide

/-- An extended real whose absolute value is below infinity is a real number. -/
theorem real_of_abs_lt {a : EReal} (h : Ideal.cmp .olt (max a (-a)) (Ideal.ofBits .f32 0x7F800000#32) = 1#1) : IsReal a := by
  have ht : Ideal.ofBits .f32 0x7F800000#32 = ⊤ := by simp [Ideal.ofBits, Ideal.ieee]
  rw [ht] at h
  induction a with
  | bot => simp [Ideal.cmp] at h
  | coe r => exact ⟨r, rfl⟩
  | top => simp [Ideal.cmp] at h

/-- An array all of whose absolute values are found below infinity holds real numbers. -/
theorem real_of_all {s t u : Shape} [Subsingleton t.Idx] {axes : List (Fin s.rank)} (x : FVec Ideal s .bf16) (init : u.Idx → BitVec 1)
    (hb : FTy.bits .bf16 < FTy.bits .f32) (hc : (⟨0, ![]⟩ : Shape).BroadcastsInDim s ![]) (h : s.ReducesTo axes t) (hu : 0 < u.numel) (j : t.Idx)
    (e : Host.reduce IntOp.andi (cmpf .olt (Host.absf (extf .f32 x hb)) (broadcastInDim s ![] hc (constant (F := Ideal) ⟨0, ![]⟩ .f32 0x7F800000#32))) init h hu j = 1#1)
    (i : s.Idx) : IsReal (x i) :=
  real_of_abs_lt (Host.reduce_andi_all _ _ h hu j e i)

variable (m : (ℓ : Loc Cert.KernelIdeal.nD Cert.KernelIdeal.τ Cert.KernelIdeal.sig) → Buf (Elt Ideal) ℓ)

open Cert.KernelIdeal in
/-- Under the precondition the activations, the query projection and the keys of every device are real. -/
theorem real_args [Cert.Pre_finite_KernelIdeal.Facts] (hm : Cert.Pre_KernelIdeal_finite_KernelIdeal m) (c : Dev nD) :
    (∀ i, IsReal ((m ((c.tc : Thread nD τ).loc main_arg0) : S2x512x768.Idx → EReal) i))
      ∧ (∀ i, IsReal ((m ((c.tc : Thread nD τ).loc main_arg1) : S768x512.Idx → EReal) i))
      ∧ ∀ i, IsReal ((m ((c.tc : Thread nD τ).loc main_arg2) : S2x512x8x64.Idx → EReal) i) := by
  have e := congrFun (hm c) (Shape.Idx.first Cert.Pre_finite_KernelIdeal.Facts.h_S_)
  have : Subsingleton (⟨0, ![]⟩ : Shape).Idx := ⟨fun a b => funext fun i => i.elim0⟩
  obtain ⟨e', e2⟩ := IntOp.andi_eq_one.1 e
  obtain ⟨e0, e1⟩ := IntOp.andi_eq_one.1 e'
  exact ⟨real_of_all _ _ _ _ _ _ _ e0, real_of_all _ _ _ _ _ _ _ e1, real_of_all _ _ _ _ _ _ _ e2⟩

open Cert.KernelIdeal Cert.KernelIdeal.Heads in
/-- An array of which every device's block is real is real. -/
theorem real_whole (k : (⟨4, ![2, 4096, 8, 64]⟩ : Shape).Idx → EReal) (hT)
    (h : ∀ (c : Dev nD) i, IsReal (Layout.block ⟨4, ![2, 512, 8, 64]⟩ ⟨4, ![2, 4096, 8, 64]⟩ 1 8 c k hT i)) (j) : IsReal (k j) := by
  obtain ⟨r, hr⟩ := (src_bijective 0).2 (j 1)
  have e : j = ix4 (j 0) (src 0 r) (j 2) (j 3) := by
    rw [hr]
    funext a
    match a with
    | ⟨0, _⟩ => rfl
    | ⟨1, _⟩ => rfl
    | ⟨2, _⟩ => rfl
    | ⟨3, _⟩ => rfl
  rw [e]
  exact block_src k hT 0 (j 0) r (j 2) (j 3) ▸ h _ _

end Cert.Attention

end
-- ==== Proof.Ring.ReferenceRun.lean ====
/-
# The reference's result as its steps
-/
module

public import proofs.«01_k».proof.Proof.Ring.Reference

@[expose] public section

noncomputable section

namespace Cert.ReferenceIdeal.Heads

open Cert.ReferenceIdeal Cert.ReferenceIdeal.Gen

open Idealize.ShloMosaic Idealize.ShloMosaic.TcCoe

variable {F : FTy → Type} [FloatOps F]

set_option maxRecDepth 65536 in
/-- The reference's result is its steps one after the other. -/
theorem result_eq (m : (ℓ : Loc nD τ sig) → Buf (Elt F) ℓ) (c : Dev nD) :
    Value.res_main_v44 m c = output (shares seen (expd (scores seen (m ((c.tc : Thread nD τ).loc main_arg0)) (m ((c.tc : Thread nD τ).loc main_arg1)) (m ((c.tc : Thread nD τ).loc main_arg2)))))
      (m ((c.tc : Thread nD τ).loc main_arg3)) (m ((c.tc : Thread nD τ).loc main_arg4)) := rfl

end Cert.ReferenceIdeal.Heads

end
-- ==== Proof.Ring.Equal.lean ====
/-
# The value claim

Under `finite` every device's result array ends holding the reference's result.
-/
module

public import proofs.«01_k».proof.Proof.Ring.Equation
public import proofs.«01_k».proof.Proof.Ring.Finite
public import proofs.«01_k».proof.Proof.Ring.ReferenceRun
public import proofs.«01_k».proof.Proof.Ring.Frames

@[expose] public section

noncomputable section

namespace Cert.Attention

open Idealize.ShloMosaic Idealize.ShloMosaic.TcCoe Idealize.SL.Sem
open Cert.Softmax

/-- On real activations, projection and keys, the array that the kernel leaves is the array that the reference leaves. -/
theorem arrays_eq (m : (ℓ : Loc Cert.KernelIdeal.nD Cert.KernelIdeal.τ Cert.KernelIdeal.sig) → Buf (Elt Ideal) ℓ) (c : Dev Cert.KernelIdeal.nD)
    (x : (⟨3, ![2, 512, 768]⟩ : Shape).Idx → EReal) (q : (⟨2, ![768, 512]⟩ : Shape).Idx → EReal)
    (k v : (⟨4, ![2, 4096, 8, 64]⟩ : Shape).Idx → EReal) (w : (⟨2, ![512, 768]⟩ : Shape).Idx → EReal) (hT)
    (hx : ∀ j, IsReal (x j)) (hq : ∀ j, IsReal (q j)) (hk : ∀ j, IsReal (k j))
    (h0 : m ((c.tc : Thread Cert.KernelIdeal.nD Cert.KernelIdeal.τ).loc Cert.KernelIdeal.main_arg0) = x)
    (h1 : m ((c.tc : Thread Cert.KernelIdeal.nD Cert.KernelIdeal.τ).loc Cert.KernelIdeal.main_arg1) = q)
    (h2 : ∀ c : Dev Cert.KernelIdeal.nD, m ((c.tc : Thread Cert.KernelIdeal.nD Cert.KernelIdeal.τ).loc Cert.KernelIdeal.main_arg2)
      = Layout.block ⟨4, ![2, 512, 8, 64]⟩ ⟨4, ![2, 4096, 8, 64]⟩ 1 8 c k hT)
    (h3 : ∀ c : Dev Cert.KernelIdeal.nD, m ((c.tc : Thread Cert.KernelIdeal.nD Cert.KernelIdeal.τ).loc Cert.KernelIdeal.main_arg3)
      = Layout.block ⟨4, ![2, 512, 8, 64]⟩ ⟨4, ![2, 4096, 8, 64]⟩ 1 8 c v hT)
    (h4 : m ((c.tc : Thread Cert.KernelIdeal.nD Cert.KernelIdeal.τ).loc Cert.KernelIdeal.main_arg4) = w) :
    (Cert.KernelIdeal.Heads.outAt m c : (⟨3, ![2, 512, 768]⟩ : Shape).Idx → EReal)
      = Cert.ReferenceIdeal.Heads.output (F := Ideal)
          (Cert.ReferenceIdeal.Heads.shares Cert.ReferenceIdeal.Heads.seen
            (Cert.ReferenceIdeal.Heads.expd (Cert.ReferenceIdeal.Heads.scores (F := Ideal) Cert.ReferenceIdeal.Heads.seen x q k))) v w := by
  funext j
  have e : j = ix3 (j 0) (j 1) (j 2) := by
    funext a
    match a with
    | ⟨0, _⟩ => rfl
    | ⟨1, _⟩ => rfl
    | ⟨2, _⟩ => rfl
  rw [e]
  exact (kernel_eq x q k v w m c hT h0 h1 h2 h3 h4 (j 0) (j 1) (j 2)).trans (reference_eq x q k v w hx hq hk (j 0) (j 1) (j 2)).symm

/-- The value claim: every device ends with the whole of the reference's result, and the arguments of both end unchanged. -/
theorem equal [Cert.Pre_finite_KernelIdeal.Facts] : Cert.algebraic_KernelIdeal_ReferenceIdeal_pre_finite_KernelIdeal := fun m g m' g' hm hargs => by
  refine ⟨Cert.ReferenceIdeal.Value.res_main_v44 m' 0, ?_, (θ_run Cert.ReferenceIdeal.defs _ _).mono (fun _ h => h 0) (Cert.ReferenceIdeal.Value.run m' g')⟩
  refine (θ_run Cert.KernelIdeal.defs _ _).mono (fun r h c => ⟨?_, Cert.KernelIdeal.Heads.args_unchanged m h.1 c⟩) (Cert.KernelIdeal.Heads.run_main m g)
  refine ((h.1 c 5).trans (Cert.KernelIdeal.Heads.final_out m c)).trans (Eq.trans ?_ (Cert.ReferenceIdeal.Heads.result_eq m' 0).symm)
  have real := fun c => real_args m hm c
  exact arrays_eq m c _ _ _ _ _ _ (fun j => (hargs c).1 ▸ (real c).1 j) (fun j => (hargs c).2.1 ▸ (real c).2.1 j)
    (real_whole _ _ fun c i => (hargs c).2.2.1 ▸ (real c).2.2 i) (hargs c).1 (hargs c).2.1 (fun c => (hargs c).2.2.1) (fun c => (hargs c).2.2.2.1) (hargs c).2.2.2.2

end Cert.Attention

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Ring.Frames
public import proofs.«01_k».proof.Proof.Ring.Equal
public import Idealize.ShloMosaic.Adequacy
public import Idealize.ShloMosaic.Init

@[expose] public section

noncomputable section

namespace Cert.Proof

open Idealize.ShloMosaic Idealize.SL.Sem Cert.Kernel

/-- The frames, with the precondition and without it, the ideal program, and the value claim. -/
theorem claim : Cert.Claim :=
  ⟨Cert.Kernel.Gen.facts, Cert.KernelIdeal.Gen.facts, Cert.ReferenceIdeal.Gen.facts, Cert.Attention.facts_blocks, Cert.Attention.facts_whole,
    Cert.KernelIdeal.Heads.frame_kernel, Cert.KernelIdeal.Heads.frame_ideal, fun m g _ => Cert.KernelIdeal.Heads.frame_ideal m g trivial,
    Cert.KernelIdeal.Heads.frame_reference, fun m g _ => Cert.KernelIdeal.Heads.frame_reference m g trivial, trivial,
    @Cert.Attention.equal Cert.Attention.facts_blocks⟩

end Cert.Proof

end
